-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v360) = v0 c
          ∧ r.2.mem ((c.tc : Thread Cert.ReferenceIdeal.nD Cert.ReferenceIdeal.τ).loc Cert.ReferenceIdeal.main_v361) = v1 c
          ∧ r.2.mem ((c.tc : Thread Cert.ReferenceIdeal.nD Cert.ReferenceIdeal.τ).loc Cert.ReferenceIdeal.main_v362) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x256x256 : Shape := ⟨4, ![2, 256, 256, 256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S2x16x16x256 : Shape := ⟨4, ![2, 16, 16, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S2304x512 : Shape := ⟨2, ![2304, 512]⟩
abbrev S512x6 : Shape := ⟨2, ![512, 6]⟩
abbrev S512x12 : Shape := ⟨2, ![512, 12]⟩
abbrev S512x18 : Shape := ⟨2, ![512, 18]⟩
abbrev S1x512 : Shape := ⟨2, ![1, 512]⟩
abbrev S18 : Shape := ⟨1, ![18]⟩
abbrev S1x18 : Shape := ⟨2, ![1, 18]⟩
abbrev S2x261888x2 : Shape := ⟨3, ![2, 261888, 2]⟩
abbrev S2x261888x4 : Shape := ⟨3, ![2, 261888, 4]⟩
abbrev S1x1x256x256 : Shape := ⟨4, ![1, 1, 256, 256]⟩
abbrev S1x8x256x256 : Shape := ⟨4, ![1, 8, 256, 256]⟩
abbrev S1x6144x2 : Shape := ⟨3, ![1, 6144, 2]⟩
abbrev S1x6144x4 : Shape := ⟨3, ![1, 6144, 4]⟩
abbrev S1x256x256 : Shape := ⟨3, ![1, 256, 256]⟩
abbrev S8x256x256 : Shape := ⟨3, ![8, 256, 256]⟩
abbrev S10x256x256 : Shape := ⟨3, ![10, 256, 256]⟩
abbrev S10x1x256 : Shape := ⟨3, ![10, 1, 256]⟩
abbrev S10x258x256 : Shape := ⟨3, ![10, 258, 256]⟩
abbrev S2048x256 : Shape := ⟨2, ![2048, 256]⟩
abbrev S2048x2304 : Shape := ⟨2, ![2048, 2304]⟩
abbrev S2048x512 : Shape := ⟨2, ![2048, 512]⟩
abbrev S2048x18 : Shape := ⟨2, ![2048, 18]⟩
abbrev S2048x6 : Shape := ⟨2, ![2048, 6]⟩
abbrev S2048x12 : Shape := ⟨2, ![2048, 12]⟩
abbrev S6x6 : Shape := ⟨2, ![6, 6]⟩
abbrev S2048x2 : Shape := ⟨2, ![2048, 2]⟩
abbrev S1x2048x2 : Shape := ⟨3, ![1, 2048, 2]⟩
abbrev S2048x4 : Shape := ⟨2, ![2048, 4]⟩
abbrev S1x2048x4 : Shape := ⟨3, ![1, 2048, 4]⟩
abbrev S1x1x128x256 : Shape := ⟨4, ![1, 1, 128, 256]⟩
abbrev S1x16x128x256 : Shape := ⟨4, ![1, 16, 128, 256]⟩
abbrev S1x128x256 : Shape := ⟨3, ![1, 128, 256]⟩
abbrev S16x128x256 : Shape := ⟨3, ![16, 128, 256]⟩
abbrev S18x128x256 : Shape := ⟨3, ![18, 128, 256]⟩
abbrev S18x1x256 : Shape := ⟨3, ![18, 1, 256]⟩
abbrev S18x130x256 : Shape := ⟨3, ![18, 130, 256]⟩
abbrev S1x1x64x256 : Shape := ⟨4, ![1, 1, 64, 256]⟩
abbrev S1x32x64x256 : Shape := ⟨4, ![1, 32, 64, 256]⟩
abbrev S1x64x256 : Shape := ⟨3, ![1, 64, 256]⟩
abbrev S32x64x256 : Shape := ⟨3, ![32, 64, 256]⟩
abbrev S34x64x256 : Shape := ⟨3, ![34, 64, 256]⟩
abbrev S34x1x256 : Shape := ⟨3, ![34, 1, 256]⟩
abbrev S34x66x256 : Shape := ⟨3, ![34, 66, 256]⟩
abbrev S1x1x32x256 : Shape := ⟨4, ![1, 1, 32, 256]⟩
abbrev S1x32x32x256 : Shape := ⟨4, ![1, 32, 32, 256]⟩
abbrev S1x3072x2 : Shape := ⟨3, ![1, 3072, 2]⟩
abbrev S1x3072x4 : Shape := ⟨3, ![1, 3072, 4]⟩
abbrev S1x32x256 : Shape := ⟨3, ![1, 32, 256]⟩
abbrev S32x32x256 : Shape := ⟨3, ![32, 32, 256]⟩
abbrev S34x32x256 : Shape := ⟨3, ![34, 32, 256]⟩
abbrev S34x34x256 : Shape := ⟨3, ![34, 34, 256]⟩
abbrev S1024x256 : Shape := ⟨2, ![1024, 256]⟩
abbrev S1024x2304 : Shape := ⟨2, ![1024, 2304]⟩
abbrev S1024x512 : Shape := ⟨2, ![1024, 512]⟩
abbrev S1024x18 : Shape := ⟨2, ![1024, 18]⟩
abbrev S1024x6 : Shape := ⟨2, ![1024, 6]⟩
abbrev S1024x12 : Shape := ⟨2, ![1024, 12]⟩
abbrev S1024x2 : Shape := ⟨2, ![1024, 2]⟩
abbrev S1x1024x2 : Shape := ⟨3, ![1, 1024, 2]⟩
abbrev S1024x4 : Shape := ⟨2, ![1024, 4]⟩
abbrev S1x1024x4 : Shape := ⟨3, ![1, 1024, 4]⟩
abbrev S1x1x16x256 : Shape := ⟨4, ![1, 1, 16, 256]⟩
abbrev S1x16x16x256 : Shape := ⟨4, ![1, 16, 16, 256]⟩
abbrev S1x768x2 : Shape := ⟨3, ![1, 768, 2]⟩
abbrev S1x768x4 : Shape := ⟨3, ![1, 768, 4]⟩
abbrev S1x16x256 : Shape := ⟨3, ![1, 16, 256]⟩
abbrev S16x16x256 : Shape := ⟨3, ![16, 16, 256]⟩
abbrev S18x16x256 : Shape := ⟨3, ![18, 16, 256]⟩
abbrev S18x18x256 : Shape := ⟨3, ![18, 18, 256]⟩
abbrev S256x256 : Shape := ⟨2, ![256, 256]⟩
abbrev S256x2304 : Shape := ⟨2, ![256, 2304]⟩
abbrev S256x512 : Shape := ⟨2, ![256, 512]⟩
abbrev S256x18 : Shape := ⟨2, ![256, 18]⟩
abbrev S256x6 : Shape := ⟨2, ![256, 6]⟩
abbrev S256x12 : Shape := ⟨2, ![256, 12]⟩
abbrev S256x2 : Shape := ⟨2, ![256, 2]⟩
abbrev S1x256x2 : Shape := ⟨3, ![1, 256, 2]⟩
abbrev S256x4 : Shape := ⟨2, ![256, 4]⟩
abbrev S1x256x4 : Shape := ⟨3, ![1, 256, 4]⟩

abbrev nBuf : Space → Nat
  | .hbm => 35
  | .vmem => 80
  | .smem => 0
  | _ => 0

abbrev bufTy : (tb : Table) → Fin (tcTables nBuf tb) → BufTy
  | .hbm, ⟨0, _⟩ => ⟨S2x256x256x256, .f32⟩
  | .hbm, ⟨1, _⟩ => ⟨S2x128x128x256, .f32⟩
  | .hbm, ⟨2, _⟩ => ⟨S2x64x64x256, .f32⟩
  | .hbm, ⟨3, _⟩ => ⟨S2x32x32x256, .f32⟩
  | .hbm, ⟨4, _⟩ => ⟨S2x16x16x256, .f32⟩
  | .hbm, ⟨5, _⟩ => ⟨S3x3x256x512, .f32⟩
  | .hbm, ⟨6, _⟩ => ⟨S512, .f32⟩
  | .hbm, ⟨7, _⟩ => ⟨S1x1x512x6, .f32⟩
  | .hbm, ⟨8, _⟩ => ⟨S6, .f32⟩
  | .hbm, ⟨9, _⟩ => ⟨S1x1x512x12, .f32⟩
  | .hbm, ⟨10, _⟩ => ⟨S12, .f32⟩
  | .hbm, ⟨11, _⟩ => ⟨S3x3x256x512, .bf16⟩
  | .hbm, ⟨12, _⟩ => ⟨S2304x512, .bf16⟩
  | .hbm, ⟨13, _⟩ => ⟨S512x6, .f32⟩
  | .hbm, ⟨14, _⟩ => ⟨S512x12, .f32⟩
  | .hbm, ⟨15, _⟩ => ⟨S512x18, .f32⟩
  | .hbm, ⟨16, _⟩ => ⟨S512x18, .bf16⟩
  | .hbm, ⟨17, _⟩ => ⟨S1x512, .f32⟩
  | .hbm, ⟨18, _⟩ => ⟨S18, .f32⟩
  | .hbm, ⟨19, _⟩ => ⟨S1x18, .f32⟩
  | .hbm, ⟨20, _⟩ => ⟨S2x261888x2, .f32⟩
  | .hbm, ⟨21, _⟩ => ⟨S2x261888x2, .f32⟩
  | .hbm, ⟨22, _⟩ => ⟨S2x261888x4, .f32⟩
  | .hbm, ⟨23, _⟩ => ⟨S2x261888x2, .f32⟩
  | .hbm, ⟨24, _⟩ => ⟨S2x261888x2, .f32⟩
  | .hbm, ⟨25, _⟩ => ⟨S2x261888x4, .f32⟩
  | .hbm, ⟨26, _⟩ => ⟨S2x261888x2, .f32⟩
  | .hbm, ⟨27, _⟩ => ⟨S2x261888x2, .f32⟩
  | .hbm, ⟨28, _⟩ => ⟨S2x261888x4, .f32⟩
  | .hbm, ⟨29, _⟩ => ⟨S2x261888x2, .f32⟩
  | .hbm, ⟨30, _⟩ => ⟨S2x261888x2, .f32⟩
  | .hbm, ⟨31, _⟩ => ⟨S2x261888x4, .f32⟩
  | .hbm, ⟨32, _⟩ => ⟨S2x261888x2, .f32⟩
  | .hbm, ⟨33, _⟩ => ⟨S2x261888x2, .f32⟩
  | .hbm, ⟨34, _⟩ => ⟨S2x261888x4, .f32⟩
  | .local _ .vmem, ⟨0, _⟩ => ⟨S1x1x256x256, .f32⟩
  | .local _ .vmem, ⟨1, _⟩ => ⟨S1x1x256x256, .f32⟩
  | .local _ .vmem, ⟨2, _⟩ => ⟨S1x8x256x256, .f32⟩
  | .local _ .vmem, ⟨3, _⟩ => ⟨S1x8x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S2304x512, .bf16⟩
  | .local _ .vmem, ⟨7, _⟩ => ⟨S512x18, .bf16⟩
  | .local _ .vmem, ⟨8, _⟩ => ⟨S1x512, .f32⟩
  | .local _ .vmem, ⟨9, _⟩ => ⟨S1x18, .f32⟩
  | .local _ .vmem, ⟨10, _⟩ => ⟨S1x6144x2, .f32⟩
  | .local _ .vmem, ⟨11, _⟩ => ⟨S1x6144x2, .f32⟩
  | .local _ .vmem, ⟨12, _⟩ => ⟨S1x6144x2, .f32⟩
  | .local _ .vmem, ⟨13, _⟩ => ⟨S1x6144x2, .f32⟩
  | .local _ .vmem, ⟨14, _⟩ => ⟨S1x6144x4, .f32⟩
  | .local _ .vmem, ⟨15, _⟩ => ⟨S1x6144x4, .f32⟩
  | .local _ .vmem, ⟨16, _⟩ => ⟨S1x1x128x256, .f32⟩
  | .local _ .vmem, ⟨17, _⟩ => ⟨S1x1x128x256, .f32⟩
  | .local _ .vmem, ⟨18, _⟩ => ⟨S1x16x128x256, .f32⟩
  | .local _ .vmem, ⟨19, _⟩ => ⟨S1x16x128x256, .f32⟩
  | .local _ .vmem, ⟨20, _⟩ => ⟨S1x1x128x256, .f32⟩
  | .local _ .vmem, ⟨21, _⟩ => ⟨S1x1x128x256, .f32⟩
  | .local _ .vmem, ⟨22, _⟩ => ⟨S2304x512, .bf16⟩
  | .local _ .vmem, ⟨23, _⟩ => ⟨S512x18, .bf16⟩
  | .local _ .vmem, ⟨24, _⟩ => ⟨S1x512, .f32⟩
  | .local _ .vmem, ⟨25, _⟩ => ⟨S1x18, .f32⟩
  | .local _ .vmem, ⟨26, _⟩ => ⟨S1x6144x2, .f32⟩
  | .local _ .vmem, ⟨27, _⟩ => ⟨S1x6144x2, .f32⟩
  | .local _ .vmem, ⟨28, _⟩ => ⟨S1x6144x2, .f32⟩
  | .local _ .vmem, ⟨29, _⟩ => ⟨S1x6144x2, .f32⟩
  | .local _ .vmem, ⟨30, _⟩ => ⟨S1x6144x4, .f32⟩
  | .local _ .vmem, ⟨31, _⟩ => ⟨S1x6144x4, .f32⟩
  | .local _ .vmem, ⟨32, _⟩ => ⟨S1x1x64x256, .f32⟩
  | .local _ .vmem, ⟨33, _⟩ => ⟨S1x1x64x256, .f32⟩
  | .local _ .vmem, ⟨34, _⟩ => ⟨S1x32x64x256, .f32⟩
  | .local _ .vmem, ⟨35, _⟩ => ⟨S1x32x64x256, .f32⟩
  | .local _ .vmem, ⟨36, _⟩ => ⟨S1x1x64x256, .f32⟩
  | .local _ .vmem, ⟨37, _⟩ => ⟨S1x1x64x256, .f32⟩
  | .local _ .vmem, ⟨38, _⟩ => ⟨S2304x512, .bf16⟩
  | .local _ .vmem, ⟨39, _⟩ => ⟨S512x18, .bf16⟩
  | .local _ .vmem, ⟨40, _⟩ => ⟨S1x512, .f32⟩
  | .local _ .vmem, ⟨41, _⟩ => ⟨S1x18, .f32⟩
  | .local _ .vmem, ⟨42, _⟩ => ⟨S1x6144x2, .f32⟩
  | .local _ .vmem, ⟨43, _⟩ => ⟨S1x6144x2, .f32⟩
  | .local _ .vmem, ⟨44, _⟩ => ⟨S1x6144x2, .f32⟩
  | .local _ .vmem, ⟨45, _⟩ => ⟨S1x6144x2, .f32⟩
  | .local _ .vmem, ⟨46, _⟩ => ⟨S1x6144x4, .f32⟩
  | .local _ .vmem, ⟨47, _⟩ => ⟨S1x6144x4, .f32⟩
  | .local _ .vmem, ⟨48, _⟩ => ⟨S1x1x32x256, .f32⟩
  | .local _ .vmem, ⟨49, _⟩ => ⟨S1x1x32x256, .f32⟩
  | .local _ .vmem, ⟨50, _⟩ => ⟨S1x32x32x256, .f32⟩
  | .local _ .vmem, ⟨51, _⟩ => ⟨S1x32x32x256, .f32⟩
  | .local _ .vmem, ⟨52, _⟩ => ⟨S1x1x32x256, .f32⟩
  | .local _ .vmem, ⟨53, _⟩ => ⟨S1x1x32x256, .f32⟩
  | .local _ .vmem, ⟨54, _⟩ => ⟨S2304x512, .bf16⟩
  | .local _ .vmem, ⟨55, _⟩ => ⟨S512x18, .bf16⟩
  | .local _ .vmem, ⟨56, _⟩ => ⟨S1x512, .f32⟩
  | .local _ .vmem, ⟨57, _⟩ => ⟨S1x18, .f32⟩
  | .local _ .vmem, ⟨58, _⟩ => ⟨S1x3072x2, .f32⟩
  | .local _ .vmem, ⟨59, _⟩ => ⟨S1x3072x2, .f32⟩
  | .local _ .vmem, ⟨60, _⟩ => ⟨S1x3072x2, .f32⟩
  | .local _ .vmem, ⟨61, _⟩ => ⟨S1x3072x2, .f32⟩
  | .local _ .vmem, ⟨62, _⟩ => ⟨S1x3072x4, .f32⟩
  | .local _ .vmem, ⟨63, _⟩ => ⟨S1x3072x4, .f32⟩
  | .local _ .vmem, ⟨64, _⟩ => ⟨S1x1x16x256, .f32⟩
  | .local _ .vmem, ⟨65, _⟩ => ⟨S1x1x16x256, .f32⟩
  | .local _ .vmem, ⟨66, _⟩ => ⟨S1x16x16x256, .f32⟩
  | .local _ .vmem, ⟨67, _⟩ => ⟨S1x16x16x256, .f32⟩
  | .local _ .vmem, ⟨68, _⟩ => ⟨S1x1x16x256, .f32⟩
  | .local _ .vmem, ⟨69, _⟩ => ⟨S1x1x16x256, .f32⟩
  | .local _ .vmem, ⟨70, _⟩ => ⟨S2304x512, .bf16⟩
  | .local _ .vmem, ⟨71, _⟩ => ⟨S512x18, .bf16⟩
  | .local _ .vmem, ⟨72, _⟩ => ⟨S1x512, .f32⟩
  | .local _ .vmem, ⟨73, _⟩ => ⟨S1x18, .f32⟩
  | .local _ .vmem, ⟨74, _⟩ => ⟨S1x768x2, .f32⟩
  | .local _ .vmem, ⟨75, _⟩ => ⟨S1x768x2, .f32⟩
  | .local _ .vmem, ⟨76, _⟩ => ⟨S1x768x2, .f32⟩
  | .local _ .vmem, ⟨77, _⟩ => ⟨S1x768x2, .f32⟩
  | .local _ .vmem, ⟨78, _⟩ => ⟨S1x768x4, .f32⟩
  | .local _ .vmem, ⟨79, _⟩ => ⟨S1x768x4, .f32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg4_0 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg7_1 : Ref sig .tc := ⟨.vmem, 59, rfl⟩
abbrev cc3_stg8_0 : Ref sig .tc := ⟨.vmem, 60, rfl⟩
abbrev cc3_stg8_1 : Ref sig .tc := ⟨.vmem, 61, rfl⟩
abbrev cc3_stg9_0 : Ref sig .tc := ⟨.vmem, 62, rfl⟩
abbrev cc3_stg9_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg4_0 : Ref sig .tc := ⟨.vmem, 71, rfl⟩
abbrev cc4_stg5_0 : Ref sig .tc := ⟨.vmem, 72, rfl⟩
abbrev cc4_stg6_0 : Ref sig .tc := ⟨.vmem, 73, rfl⟩
abbrev cc4_stg7_0 : Ref sig .tc := ⟨.vmem, 74, rfl⟩
abbrev cc4_stg7_1 : Ref sig .tc := ⟨.vmem, 75, rfl⟩
abbrev cc4_stg8_0 : Ref sig .tc := ⟨.vmem, 76, rfl⟩
abbrev cc4_stg8_1 : Ref sig .tc := ⟨.vmem, 77, rfl⟩
abbrev cc4_stg9_0 : Ref sig .tc := ⟨.vmem, 78, rfl⟩
abbrev cc4_stg9_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem7_1 : DmaSem sig := 43
abbrev cc2_sem8_0 : DmaSem sig := 44
abbrev cc2_sem8_1 : DmaSem sig := 45
abbrev cc2_sem9_0 : DmaSem sig := 46
abbrev cc2_sem9_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem4_0 : DmaSem sig := 55
abbrev cc3_sem5_0 : DmaSem sig := 56
abbrev cc3_sem6_0 : DmaSem sig := 57
abbrev cc3_sem7_0 : DmaSem sig := 58
abbrev cc3_sem7_1 : DmaSem sig := 59
abbrev cc3_sem8_0 : DmaSem sig := 60
abbrev cc3_sem8_1 : DmaSem sig := 61
abbrev cc3_sem9_0 : DmaSem sig := 62
abbrev cc3_sem9_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem4_0 : DmaSem sig := 71
abbrev cc4_sem5_0 : DmaSem sig := 72
abbrev cc4_sem6_0 : DmaSem sig := 73
abbrev cc4_sem7_0 : DmaSem sig := 74
abbrev cc4_sem7_1 : DmaSem sig := 75
abbrev cc4_sem8_0 : DmaSem sig := 76
abbrev cc4_sem8_1 : DmaSem sig := 77
abbrev cc4_sem9_0 : DmaSem sig := 78
abbrev cc4_sem9_1 : DmaSem sig := 79

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![arg0.toNat, v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 2 → Memref sig .tc .vmem S1x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2304x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x18 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x6144x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6144x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x6144x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![arg0.toNat, v2.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, v0.toNat, c0_i32.toNat]

def cc1_transform_11 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, v0.toNat, c0_i32.toNat]

def cc1_transform_12 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, v0.toNat, c0_i32.toNat]

abbrev stage1_0 : Fin 2 → Memref sig .tc .vmem S1x1x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S2304x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x18 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x18 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x6144x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x6144x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x6144x4 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![2, 2], ![false, false]⟩

def cc2_transform_0 (i : grid2.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![arg0.toNat, v2.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, v0.toNat, c0_i32.toNat]

def cc2_transform_11 (i : grid2.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, v0.toNat, c0_i32.toNat]

def cc2_transform_12 (i : grid2.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, v0.toNat, c0_i32.toNat]

abbrev stage2_0 : Fin 2 → Memref sig .tc .vmem S1x1x64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x64x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S2304x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S512x18 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x18 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x6144x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x6144x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x6144x4 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![2, 1], ![false, false]⟩

def cc3_transform_0 (i : grid3.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![arg0.toNat, v2.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let arg1 : BitVec 32 := BitVec.ofNat 32 (i 1).val
  let c84_i32 : BitVec 32 := 84#32
  let v0 : BitVec 32 := Scalar.addi c84_i32 arg1
  let c0_i32 : BitVec 32 := 0#32
  let c0_i32_0 : BitVec 32 := 0#32
  ![arg0.toNat, v0.toNat, c0_i32.toNat]

def cc3_transform_11 (i : grid3.Coords) : Fin 3 → Nat :=
  let arg0 : BitVec 32 := BitVec.ofNat 32 (i 0).val
  let arg1 : BitVec 32 := BitVec.ofNat 32 (i 1).val
  let c84_i32 : BitVec 32 := 84#32
  let v0 : BitVec 32 := Scalar.addi c84_i32 arg1
  let c0_i32 : BitVec 32 := 0#32
  let c0_i32_0 : BitVec 32 := 0#32
  ![arg0.toNat, v0.toNat, c0_i32.toNat]

def cc3_transform_12 (i : grid3.Coords) : Fin 3 → Nat :=
  let arg0 : BitVec 32 := BitVec.ofNat 32 (i 0).val
  let arg1 : BitVec 32 := BitVec.ofNat 32 (i 1).val
  let c84_i32 : BitVec 32 := 84#32
  let v0 : BitVec 32 := Scalar.addi c84_i32 arg1
  let c0_i32 : BitVec 32 := 0#32
  let c0_i32_0 : BitVec 32 := 0#32
  ![arg0.toNat, v0.toNat, c0_i32.toNat]

abbrev stage3_0 : Fin 2 → Memref sig .tc .vmem S1x1x32x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x32x32x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x32x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S2304x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S512x18 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x18 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x3072x2 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x3072x2 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S1x3072x4 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev grid4 : Pipeline.Grid := ⟨2, ![2, 1], ![false, false]⟩

def cc4_transform_0 (i : grid4.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![arg0.toNat, v2.toNat, c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 3 → Nat :=
  let arg0 : BitVec 32 := BitVec.ofNat 32 (i 0).val
  let arg1 : BitVec 32 := BitVec.ofNat 32 (i 1).val
  let c340_i32 : BitVec 32 := 340#32
  let v0 : BitVec 32 := Scalar.addi c340_i32 arg1
  let c0_i32 : BitVec 32 := 0#32
  let c0_i32_0 : BitVec 32 := 0#32
  ![arg0.toNat, v0.toNat, c0_i32.toNat]

def cc4_transform_11 (i : grid4.Coords) : Fin 3 → Nat :=
  let arg0 : BitVec 32 := BitVec.ofNat 32 (i 0).val
  let arg1 : BitVec 32 := BitVec.ofNat 32 (i 1).val
  let c340_i32 : BitVec 32 := 340#32
  let v0 : BitVec 32 := Scalar.addi c340_i32 arg1
  let c0_i32 : BitVec 32 := 0#32
  let c0_i32_0 : BitVec 32 := 0#32
  ![arg0.toNat, v0.toNat, c0_i32.toNat]

def cc4_transform_12 (i : grid4.Coords) : Fin 3 → Nat :=
  let arg0 : BitVec 32 := BitVec.ofNat 32 (i 0).val
  let arg1 : BitVec 32 := BitVec.ofNat 32 (i 1).val
  let c340_i32 : BitVec 32 := 340#32
  let v0 : BitVec 32 := Scalar.addi c340_i32 arg1
  let c0_i32 : BitVec 32 := 0#32
  let c0_i32_0 : BitVec 32 := 0#32
  ![arg0.toNat, v0.toNat, c0_i32.toNat]

abbrev stage4_0 : Fin 2 → Memref sig .tc .vmem S1x1x16x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x16x16x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x16x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S2304x512 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S512x18 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x18 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1x768x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1x768x2 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S1x768x4 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]
-- ==== ReferenceIdeal.lean ====
abbrev S2x256x256x256 : Shape := ⟨4, ![2, 256, 256, 256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S2x16x16x256 : Shape := ⟨4, ![2, 16, 16, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S_ : Shape := ⟨0, ![]⟩
abbrev S2x258x258x256 : Shape := ⟨4, ![2, 258, 258, 256]⟩
abbrev S1x1x256x512 : Shape := ⟨4, ![1, 1, 256, 512]⟩
abbrev S256x512 : Shape := ⟨2, ![256, 512]⟩
abbrev S2x256x256x512 : Shape := ⟨4, ![2, 256, 256, 512]⟩
abbrev S1x1x1x512 : Shape := ⟨4, ![1, 1, 1, 512]⟩
abbrev S512x6 : Shape := ⟨2, ![512, 6]⟩
abbrev S2x256x256x6 : Shape := ⟨4, ![2, 256, 256, 6]⟩
abbrev S1x1x1x6 : Shape := ⟨4, ![1, 1, 1, 6]⟩
abbrev S2x196608x2 : Shape := ⟨3, ![2, 196608, 2]⟩
abbrev S2x196608 : Shape := ⟨2, ![2, 196608]⟩
abbrev S2x196608x1 : Shape := ⟨3, ![2, 196608, 1]⟩
abbrev S512x12 : Shape := ⟨2, ![512, 12]⟩
abbrev S2x256x256x12 : Shape := ⟨4, ![2, 256, 256, 12]⟩
abbrev S1x1x1x12 : Shape := ⟨4, ![1, 1, 1, 12]⟩
abbrev S2x196608x4 : Shape := ⟨3, ![2, 196608, 4]⟩
abbrev S2x130x130x256 : Shape := ⟨4, ![2, 130, 130, 256]⟩
abbrev S2x128x128x512 : Shape := ⟨4, ![2, 128, 128, 512]⟩
abbrev S2x128x128x6 : Shape := ⟨4, ![2, 128, 128, 6]⟩
abbrev S2x49152x2 : Shape := ⟨3, ![2, 49152, 2]⟩
abbrev S2x49152 : Shape := ⟨2, ![2, 49152]⟩
abbrev S2x49152x1 : Shape := ⟨3, ![2, 49152, 1]⟩
abbrev S2x128x128x12 : Shape := ⟨4, ![2, 128, 128, 12]⟩
abbrev S2x49152x4 : Shape := ⟨3, ![2, 49152, 4]⟩
abbrev S2x66x66x256 : Shape := ⟨4, ![2, 66, 66, 256]⟩
abbrev S2x64x64x512 : Shape := ⟨4, ![2, 64, 64, 512]⟩
abbrev S2x64x64x6 : Shape := ⟨4, ![2, 64, 64, 6]⟩
abbrev S2x12288x2 : Shape := ⟨3, ![2, 12288, 2]⟩
abbrev S2x12288 : Shape := ⟨2, ![2, 12288]⟩
abbrev S2x12288x1 : Shape := ⟨3, ![2, 12288, 1]⟩
abbrev S2x64x64x12 : Shape := ⟨4, ![2, 64, 64, 12]⟩
abbrev S2x12288x4 : Shape := ⟨3, ![2, 12288, 4]⟩
abbrev S2x34x34x256 : Shape := ⟨4, ![2, 34, 34, 256]⟩
abbrev S2x32x32x512 : Shape := ⟨4, ![2, 32, 32, 512]⟩
abbrev S2x32x32x6 : Shape := ⟨4, ![2, 32, 32, 6]⟩
abbrev S2x3072x2 : Shape := ⟨3, ![2, 3072, 2]⟩
abbrev S2x3072 : Shape := ⟨2, ![2, 3072]⟩
abbrev S2x3072x1 : Shape := ⟨3, ![2, 3072, 1]⟩
abbrev S2x32x32x12 : Shape := ⟨4, ![2, 32, 32, 12]⟩
abbrev S2x3072x4 : Shape := ⟨3, ![2, 3072, 4]⟩
abbrev S2x18x18x256 : Shape := ⟨4, ![2, 18, 18, 256]⟩
abbrev S2x16x16x512 : Shape := ⟨4, ![2, 16, 16, 512]⟩
abbrev S2x16x16x6 : Shape := ⟨4, ![2, 16, 16, 6]⟩
abbrev S2x768x2 : Shape := ⟨3, ![2, 768, 2]⟩
abbrev S2x768 : Shape := ⟨2, ![2, 768]⟩
abbrev S2x768x1 : Shape := ⟨3, ![2, 768, 1]⟩
abbrev S2x16x16x12 : Shape := ⟨4, ![2, 16, 16, 12]⟩
abbrev S2x768x4 : Shape := ⟨3, ![2, 768, 4]⟩
abbrev S2x261888x2 : Shape := ⟨3, ![2, 261888, 2]⟩
abbrev S2x261888x4 : Shape := ⟨3, ![2, 261888, 4]⟩

abbrev nBuf : Space → Nat
  | .hbm => 409
  | .vmem => 0
  | .smem => 0
  | _ => 0

abbrev hbmTy0_0 (i : Nat) : BufTy := match i % 128 with
  | 0 => ⟨S2x256x256x256, .f32⟩
  | 1 => ⟨S2x128x128x256, .f32⟩
  | 2 => ⟨S2x64x64x256, .f32⟩
  | 3 => ⟨S2x32x32x256, .f32⟩
  | 4 => ⟨S2x16x16x256, .f32⟩
  | 5 => ⟨S3x3x256x512, .f32⟩
  | 6 => ⟨S512, .f32⟩
  | 7 => ⟨S1x1x512x6, .f32⟩
  | 8 => ⟨S6, .f32⟩
  | 9 => ⟨S1x1x512x12, .f32⟩
  | 10 => ⟨S12, .f32⟩
  | 11 => ⟨S_, .i32⟩
  | 12 => ⟨S_, .f32⟩
  | 13 => ⟨S2x258x258x256, .f32⟩
  | 14 => ⟨S2x256x256x256, .f32⟩
  | 15 => ⟨S1x1x256x512, .f32⟩
  | 16 => ⟨S256x512, .f32⟩
  | 17 => ⟨S2x256x256x512, .f32⟩
  | 18 => ⟨S2x256x256x256, .f32⟩
  | 19 => ⟨S1x1x256x512, .f32⟩
  | 20 => ⟨S256x512, .f32⟩
  | 21 => ⟨S2x256x256x512, .f32⟩
  | 22 => ⟨S2x256x256x512, .f32⟩
  | 23 => ⟨S2x256x256x256, .f32⟩
  | 24 => ⟨S1x1x256x512, .f32⟩
  | 25 => ⟨S256x512, .f32⟩
  | 26 => ⟨S2x256x256x512, .f32⟩
  | 27 => ⟨S2x256x256x512, .f32⟩
  | 28 => ⟨S2x256x256x256, .f32⟩
  | 29 => ⟨S1x1x256x512, .f32⟩
  | 30 => ⟨S256x512, .f32⟩
  | 31 => ⟨S2x256x256x512, .f32⟩
  | 32 => ⟨S2x256x256x512, .f32⟩
  | 33 => ⟨S2x256x256x256, .f32⟩
  | 34 => ⟨S1x1x256x512, .f32⟩
  | 35 => ⟨S256x512, .f32⟩
  | 36 => ⟨S2x256x256x512, .f32⟩
  | 37 => ⟨S2x256x256x512, .f32⟩
  | 38 => ⟨S2x256x256x256, .f32⟩
  | 39 => ⟨S1x1x256x512, .f32⟩
  | 40 => ⟨S256x512, .f32⟩
  | 41 => ⟨S2x256x256x512, .f32⟩
  | 42 => ⟨S2x256x256x512, .f32⟩
  | 43 => ⟨S2x256x256x256, .f32⟩
  | 44 => ⟨S1x1x256x512, .f32⟩
  | 45 => ⟨S256x512, .f32⟩
  | 46 => ⟨S2x256x256x512, .f32⟩
  | 47 => ⟨S2x256x256x512, .f32⟩
  | 48 => ⟨S2x256x256x256, .f32⟩
  | 49 => ⟨S1x1x256x512, .f32⟩
  | 50 => ⟨S256x512, .f32⟩
  | 51 => ⟨S2x256x256x512, .f32⟩
  | 52 => ⟨S2x256x256x512, .f32⟩
  | 53 => ⟨S2x256x256x256, .f32⟩
  | 54 => ⟨S1x1x256x512, .f32⟩
  | 55 => ⟨S256x512, .f32⟩
  | 56 => ⟨S2x256x256x512, .f32⟩
  | 57 => ⟨S2x256x256x512, .f32⟩
  | 58 => ⟨S1x1x1x512, .f32⟩
  | 59 => ⟨S2x256x256x512, .f32⟩
  | 60 => ⟨S2x256x256x512, .f32⟩
  | 61 => ⟨S_, .f32⟩
  | 62 => ⟨S2x256x256x512, .f32⟩
  | 63 => ⟨S2x256x256x512, .f32⟩
  | 64 => ⟨S512x6, .f32⟩
  | 65 => ⟨S2x256x256x6, .f32⟩
  | 66 => ⟨S1x1x1x6, .f32⟩
  | 67 => ⟨S2x256x256x6, .f32⟩
  | 68 => ⟨S2x256x256x6, .f32⟩
  | 69 => ⟨S2x196608x2, .f32⟩
  | 70 => ⟨S_, .f32⟩
  | 71 => ⟨S2x196608, .f32⟩
  | 72 => ⟨S_, .f32⟩
  | 73 => ⟨S2x196608, .f32⟩
  | 74 => ⟨S2x196608, .f32⟩
  | 75 => ⟨S2x196608x1, .f32⟩
  | 76 => ⟨S2x196608x2, .f32⟩
  | 77 => ⟨S2x196608x2, .f32⟩
  | 78 => ⟨S2x196608x2, .f32⟩
  | 79 => ⟨S_, .f32⟩
  | 80 => ⟨S2x196608, .f32⟩
  | 81 => ⟨S2x196608x1, .f32⟩
  | 82 => ⟨S2x196608x2, .f32⟩
  | 83 => ⟨S2x196608x2, .f32⟩
  | 84 => ⟨S512x12, .f32⟩
  | 85 => ⟨S2x256x256x12, .f32⟩
  | 86 => ⟨S1x1x1x12, .f32⟩
  | 87 => ⟨S2x256x256x12, .f32⟩
  | 88 => ⟨S2x256x256x12, .f32⟩
  | 89 => ⟨S2x196608x4, .f32⟩
  | 90 => ⟨S_, .i32⟩
  | 91 => ⟨S_, .f32⟩
  | 92 => ⟨S2x130x130x256, .f32⟩
  | 93 => ⟨S2x128x128x256, .f32⟩
  | 94 => ⟨S1x1x256x512, .f32⟩
  | 95 => ⟨S256x512, .f32⟩
  | 96 => ⟨S2x128x128x512, .f32⟩
  | 97 => ⟨S2x128x128x256, .f32⟩
  | 98 => ⟨S1x1x256x512, .f32⟩
  | 99 => ⟨S256x512, .f32⟩
  | 100 => ⟨S2x128x128x512, .f32⟩
  | 101 => ⟨S2x128x128x512, .f32⟩
  | 102 => ⟨S2x128x128x256, .f32⟩
  | 103 => ⟨S1x1x256x512, .f32⟩
  | 104 => ⟨S256x512, .f32⟩
  | 105 => ⟨S2x128x128x512, .f32⟩
  | 106 => ⟨S2x128x128x512, .f32⟩
  | 107 => ⟨S2x128x128x256, .f32⟩
  | 108 => ⟨S1x1x256x512, .f32⟩
  | 109 => ⟨S256x512, .f32⟩
  | 110 => ⟨S2x128x128x512, .f32⟩
  | 111 => ⟨S2x128x128x512, .f32⟩
  | 112 => ⟨S2x128x128x256, .f32⟩
  | 113 => ⟨S1x1x256x512, .f32⟩
  | 114 => ⟨S256x512, .f32⟩
  | 115 => ⟨S2x128x128x512, .f32⟩
  | 116 => ⟨S2x128x128x512, .f32⟩
  | 117 => ⟨S2x128x128x256, .f32⟩
  | 118 => ⟨S1x1x256x512, .f32⟩
  | 119 => ⟨S256x512, .f32⟩
  | 120 => ⟨S2x128x128x512, .f32⟩
  | 121 => ⟨S2x128x128x512, .f32⟩
  | 122 => ⟨S2x128x128x256, .f32⟩
  | 123 => ⟨S1x1x256x512, .f32⟩
  | 124 => ⟨S256x512, .f32⟩
  | 125 => ⟨S2x128x128x512, .f32⟩
  | 126 => ⟨S2x128x128x512, .f32⟩
  | 127 => ⟨S2x128x128x256, .f32⟩
  | _ => ⟨S2x256x256x256, .f32⟩

abbrev hbmTy0_1 (i : Nat) : BufTy := match i % 128 with
  | 0 => ⟨S1x1x256x512, .f32⟩
  | 1 => ⟨S256x512, .f32⟩
  | 2 => ⟨S2x128x128x512, .f32⟩
  | 3 => ⟨S2x128x128x512, .f32⟩
  | 4 => ⟨S2x128x128x256, .f32⟩
  | 5 => ⟨S1x1x256x512, .f32⟩
  | 6 => ⟨S256x512, .f32⟩
  | 7 => ⟨S2x128x128x512, .f32⟩
  | 8 => ⟨S2x128x128x512, .f32⟩
  | 9 => ⟨S1x1x1x512, .f32⟩
  | 10 => ⟨S2x128x128x512, .f32⟩
  | 11 => ⟨S2x128x128x512, .f32⟩
  | 12 => ⟨S_, .f32⟩
  | 13 => ⟨S2x128x128x512, .f32⟩
  | 14 => ⟨S2x128x128x512, .f32⟩
  | 15 => ⟨S512x6, .f32⟩
  | 16 => ⟨S2x128x128x6, .f32⟩
  | 17 => ⟨S1x1x1x6, .f32⟩
  | 18 => ⟨S2x128x128x6, .f32⟩
  | 19 => ⟨S2x128x128x6, .f32⟩
  | 20 => ⟨S2x49152x2, .f32⟩
  | 21 => ⟨S_, .f32⟩
  | 22 => ⟨S2x49152, .f32⟩
  | 23 => ⟨S_, .f32⟩
  | 24 => ⟨S2x49152, .f32⟩
  | 25 => ⟨S2x49152, .f32⟩
  | 26 => ⟨S2x49152x1, .f32⟩
  | 27 => ⟨S2x49152x2, .f32⟩
  | 28 => ⟨S2x49152x2, .f32⟩
  | 29 => ⟨S2x49152x2, .f32⟩
  | 30 => ⟨S_, .f32⟩
  | 31 => ⟨S2x49152, .f32⟩
  | 32 => ⟨S2x49152x1, .f32⟩
  | 33 => ⟨S2x49152x2, .f32⟩
  | 34 => ⟨S2x49152x2, .f32⟩
  | 35 => ⟨S512x12, .f32⟩
  | 36 => ⟨S2x128x128x12, .f32⟩
  | 37 => ⟨S1x1x1x12, .f32⟩
  | 38 => ⟨S2x128x128x12, .f32⟩
  | 39 => ⟨S2x128x128x12, .f32⟩
  | 40 => ⟨S2x49152x4, .f32⟩
  | 41 => ⟨S_, .i32⟩
  | 42 => ⟨S_, .f32⟩
  | 43 => ⟨S2x66x66x256, .f32⟩
  | 44 => ⟨S2x64x64x256, .f32⟩
  | 45 => ⟨S1x1x256x512, .f32⟩
  | 46 => ⟨S256x512, .f32⟩
  | 47 => ⟨S2x64x64x512, .f32⟩
  | 48 => ⟨S2x64x64x256, .f32⟩
  | 49 => ⟨S1x1x256x512, .f32⟩
  | 50 => ⟨S256x512, .f32⟩
  | 51 => ⟨S2x64x64x512, .f32⟩
  | 52 => ⟨S2x64x64x512, .f32⟩
  | 53 => ⟨S2x64x64x256, .f32⟩
  | 54 => ⟨S1x1x256x512, .f32⟩
  | 55 => ⟨S256x512, .f32⟩
  | 56 => ⟨S2x64x64x512, .f32⟩
  | 57 => ⟨S2x64x64x512, .f32⟩
  | 58 => ⟨S2x64x64x256, .f32⟩
  | 59 => ⟨S1x1x256x512, .f32⟩
  | 60 => ⟨S256x512, .f32⟩
  | 61 => ⟨S2x64x64x512, .f32⟩
  | 62 => ⟨S2x64x64x512, .f32⟩
  | 63 => ⟨S2x64x64x256, .f32⟩
  | 64 => ⟨S1x1x256x512, .f32⟩
  | 65 => ⟨S256x512, .f32⟩
  | 66 => ⟨S2x64x64x512, .f32⟩
  | 67 => ⟨S2x64x64x512, .f32⟩
  | 68 => ⟨S2x64x64x256, .f32⟩
  | 69 => ⟨S1x1x256x512, .f32⟩
  | 70 => ⟨S256x512, .f32⟩
  | 71 => ⟨S2x64x64x512, .f32⟩
  | 72 => ⟨S2x64x64x512, .f32⟩
  | 73 => ⟨S2x64x64x256, .f32⟩
  | 74 => ⟨S1x1x256x512, .f32⟩
  | 75 => ⟨S256x512, .f32⟩
  | 76 => ⟨S2x64x64x512, .f32⟩
  | 77 => ⟨S2x64x64x512, .f32⟩
  | 78 => ⟨S2x64x64x256, .f32⟩
  | 79 => ⟨S1x1x256x512, .f32⟩
  | 80 => ⟨S256x512, .f32⟩
  | 81 => ⟨S2x64x64x512, .f32⟩
  | 82 => ⟨S2x64x64x512, .f32⟩
  | 83 => ⟨S2x64x64x256, .f32⟩
  | 84 => ⟨S1x1x256x512, .f32⟩
  | 85 => ⟨S256x512, .f32⟩
  | 86 => ⟨S2x64x64x512, .f32⟩
  | 87 => ⟨S2x64x64x512, .f32⟩
  | 88 => ⟨S1x1x1x512, .f32⟩
  | 89 => ⟨S2x64x64x512, .f32⟩
  | 90 => ⟨S2x64x64x512, .f32⟩
  | 91 => ⟨S_, .f32⟩
  | 92 => ⟨S2x64x64x512, .f32⟩
  | 93 => ⟨S2x64x64x512, .f32⟩
  | 94 => ⟨S512x6, .f32⟩
  | 95 => ⟨S2x64x64x6, .f32⟩
  | 96 => ⟨S1x1x1x6, .f32⟩
  | 97 => ⟨S2x64x64x6, .f32⟩
  | 98 => ⟨S2x64x64x6, .f32⟩
  | 99 => ⟨S2x12288x2, .f32⟩
  | 100 => ⟨S_, .f32⟩
  | 101 => ⟨S2x12288, .f32⟩
  | 102 => ⟨S_, .f32⟩
  | 103 => ⟨S2x12288, .f32⟩
  | 104 => ⟨S2x12288, .f32⟩
  | 105 => ⟨S2x12288x1, .f32⟩
  | 106 => ⟨S2x12288x2, .f32⟩
  | 107 => ⟨S2x12288x2, .f32⟩
  | 108 => ⟨S2x12288x2, .f32⟩
  | 109 => ⟨S_, .f32⟩
  | 110 => ⟨S2x12288, .f32⟩
  | 111 => ⟨S2x12288x1, .f32⟩
  | 112 => ⟨S2x12288x2, .f32⟩
  | 113 => ⟨S2x12288x2, .f32⟩
  | 114 => ⟨S512x12, .f32⟩
  | 115 => ⟨S2x64x64x12, .f32⟩
  | 116 => ⟨S1x1x1x12, .f32⟩
  | 117 => ⟨S2x64x64x12, .f32⟩
  | 118 => ⟨S2x64x64x12, .f32⟩
  | 119 => ⟨S2x12288x4, .f32⟩
  | 120 => ⟨S_, .i32⟩
  | 121 => ⟨S_, .f32⟩
  | 122 => ⟨S2x34x34x256, .f32⟩
  | 123 => ⟨S2x32x32x256, .f32⟩
  | 124 => ⟨S1x1x256x512, .f32⟩
  | 125 => ⟨S256x512, .f32⟩
  | 126 => ⟨S2x32x32x512, .f32⟩
  | 127 => ⟨S2x32x32x256, .f32⟩
  | _ => ⟨S2x256x256x256, .f32⟩

abbrev hbmTy0_2 (i : Nat) : BufTy := match i % 128 with
  | 0 => ⟨S1x1x256x512, .f32⟩
  | 1 => ⟨S256x512, .f32⟩
  | 2 => ⟨S2x32x32x512, .f32⟩
  | 3 => ⟨S2x32x32x512, .f32⟩
  | 4 => ⟨S2x32x32x256, .f32⟩
  | 5 => ⟨S1x1x256x512, .f32⟩
  | 6 => ⟨S256x512, .f32⟩
  | 7 => ⟨S2x32x32x512, .f32⟩
  | 8 => ⟨S2x32x32x512, .f32⟩
  | 9 => ⟨S2x32x32x256, .f32⟩
  | 10 => ⟨S1x1x256x512, .f32⟩
  | 11 => ⟨S256x512, .f32⟩
  | 12 => ⟨S2x32x32x512, .f32⟩
  | 13 => ⟨S2x32x32x512, .f32⟩
  | 14 => ⟨S2x32x32x256, .f32⟩
  | 15 => ⟨S1x1x256x512, .f32⟩
  | 16 => ⟨S256x512, .f32⟩
  | 17 => ⟨S2x32x32x512, .f32⟩
  | 18 => ⟨S2x32x32x512, .f32⟩
  | 19 => ⟨S2x32x32x256, .f32⟩
  | 20 => ⟨S1x1x256x512, .f32⟩
  | 21 => ⟨S256x512, .f32⟩
  | 22 => ⟨S2x32x32x512, .f32⟩
  | 23 => ⟨S2x32x32x512, .f32⟩
  | 24 => ⟨S2x32x32x256, .f32⟩
  | 25 => ⟨S1x1x256x512, .f32⟩
  | 26 => ⟨S256x512, .f32⟩
  | 27 => ⟨S2x32x32x512, .f32⟩
  | 28 => ⟨S2x32x32x512, .f32⟩
  | 29 => ⟨S2x32x32x256, .f32⟩
  | 30 => ⟨S1x1x256x512, .f32⟩
  | 31 => ⟨S256x512, .f32⟩
  | 32 => ⟨S2x32x32x512, .f32⟩
  | 33 => ⟨S2x32x32x512, .f32⟩
  | 34 => ⟨S2x32x32x256, .f32⟩
  | 35 => ⟨S1x1x256x512, .f32⟩
  | 36 => ⟨S256x512, .f32⟩
  | 37 => ⟨S2x32x32x512, .f32⟩
  | 38 => ⟨S2x32x32x512, .f32⟩
  | 39 => ⟨S1x1x1x512, .f32⟩
  | 40 => ⟨S2x32x32x512, .f32⟩
  | 41 => ⟨S2x32x32x512, .f32⟩
  | 42 => ⟨S_, .f32⟩
  | 43 => ⟨S2x32x32x512, .f32⟩
  | 44 => ⟨S2x32x32x512, .f32⟩
  | 45 => ⟨S512x6, .f32⟩
  | 46 => ⟨S2x32x32x6, .f32⟩
  | 47 => ⟨S1x1x1x6, .f32⟩
  | 48 => ⟨S2x32x32x6, .f32⟩
  | 49 => ⟨S2x32x32x6, .f32⟩
  | 50 => ⟨S2x3072x2, .f32⟩
  | 51 => ⟨S_, .f32⟩
  | 52 => ⟨S2x3072, .f32⟩
  | 53 => ⟨S_, .f32⟩
  | 54 => ⟨S2x3072, .f32⟩
  | 55 => ⟨S2x3072, .f32⟩
  | 56 => ⟨S2x3072x1, .f32⟩
  | 57 => ⟨S2x3072x2, .f32⟩
  | 58 => ⟨S2x3072x2, .f32⟩
  | 59 => ⟨S2x3072x2, .f32⟩
  | 60 => ⟨S_, .f32⟩
  | 61 => ⟨S2x3072, .f32⟩
  | 62 => ⟨S2x3072x1, .f32⟩
  | 63 => ⟨S2x3072x2, .f32⟩
  | 64 => ⟨S2x3072x2, .f32⟩
  | 65 => ⟨S512x12, .f32⟩
  | 66 => ⟨S2x32x32x12, .f32⟩
  | 67 => ⟨S1x1x1x12, .f32⟩
  | 68 => ⟨S2x32x32x12, .f32⟩
  | 69 => ⟨S2x32x32x12, .f32⟩
  | 70 => ⟨S2x3072x4, .f32⟩
  | 71 => ⟨S_, .i32⟩
  | 72 => ⟨S_, .f32⟩
  | 73 => ⟨S2x18x18x256, .f32⟩
  | 74 => ⟨S2x16x16x256, .f32⟩
  | 75 => ⟨S1x1x256x512, .f32⟩
  | 76 => ⟨S256x512, .f32⟩
  | 77 => ⟨S2x16x16x512, .f32⟩
  | 78 => ⟨S2x16x16x256, .f32⟩
  | 79 => ⟨S1x1x256x512, .f32⟩
  | 80 => ⟨S256x512, .f32⟩
  | 81 => ⟨S2x16x16x512, .f32⟩
  | 82 => ⟨S2x16x16x512, .f32⟩
  | 83 => ⟨S2x16x16x256, .f32⟩
  | 84 => ⟨S1x1x256x512, .f32⟩
  | 85 => ⟨S256x512, .f32⟩
  | 86 => ⟨S2x16x16x512, .f32⟩
  | 87 => ⟨S2x16x16x512, .f32⟩
  | 88 => ⟨S2x16x16x256, .f32⟩
  | 89 => ⟨S1x1x256x512, .f32⟩
  | 90 => ⟨S256x512, .f32⟩
  | 91 => ⟨S2x16x16x512, .f32⟩
  | 92 => ⟨S2x16x16x512, .f32⟩
  | 93 => ⟨S2x16x16x256, .f32⟩
  | 94 => ⟨S1x1x256x512, .f32⟩
  | 95 => ⟨S256x512, .f32⟩
  | 96 => ⟨S2x16x16x512, .f32⟩
  | 97 => ⟨S2x16x16x512, .f32⟩
  | 98 => ⟨S2x16x16x256, .f32⟩
  | 99 => ⟨S1x1x256x512, .f32⟩
  | 100 => ⟨S256x512, .f32⟩
  | 101 => ⟨S2x16x16x512, .f32⟩
  | 102 => ⟨S2x16x16x512, .f32⟩
  | 103 => ⟨S2x16x16x256, .f32⟩
  | 104 => ⟨S1x1x256x512, .f32⟩
  | 105 => ⟨S256x512, .f32⟩
  | 106 => ⟨S2x16x16x512, .f32⟩
  | 107 => ⟨S2x16x16x512, .f32⟩
  | 108 => ⟨S2x16x16x256, .f32⟩
  | 109 => ⟨S1x1x256x512, .f32⟩
  | 110 => ⟨S256x512, .f32⟩
  | 111 => ⟨S2x16x16x512, .f32⟩
  | 112 => ⟨S2x16x16x512, .f32⟩
  | 113 => ⟨S2x16x16x256, .f32⟩
  | 114 => ⟨S1x1x256x512, .f32⟩
  | 115 => ⟨S256x512, .f32⟩
  | 116 => ⟨S2x16x16x512, .f32⟩
  | 117 => ⟨S2x16x16x512, .f32⟩
  | 118 => ⟨S1x1x1x512, .f32⟩
  | 119 => ⟨S2x16x16x512, .f32⟩
  | 120 => ⟨S2x16x16x512, .f32⟩
  | 121 => ⟨S_, .f32⟩
  | 122 => ⟨S2x16x16x512, .f32⟩
  | 123 => ⟨S2x16x16x512, .f32⟩
  | 124 => ⟨S512x6, .f32⟩
  | 125 => ⟨S2x16x16x6, .f32⟩
  | 126 => ⟨S1x1x1x6, .f32⟩
  | 127 => ⟨S2x16x16x6, .f32⟩
  | _ => ⟨S2x256x256x256, .f32⟩

abbrev hbmTy0_3 (i : Nat) : BufTy := match i % 128 with
  | 0 => ⟨S2x16x16x6, .f32⟩
  | 1 => ⟨S2x768x2, .f32⟩
  | 2 => ⟨S_, .f32⟩
  | 3 => ⟨S2x768, .f32⟩
  | 4 => ⟨S_, .f32⟩
  | 5 => ⟨S2x768, .f32⟩
  | 6 => ⟨S2x768, .f32⟩
  | 7 => ⟨S2x768x1, .f32⟩
  | 8 => ⟨S2x768x2, .f32⟩
  | 9 => ⟨S2x768x2, .f32⟩
  | 10 => ⟨S2x768x2, .f32⟩
  | 11 => ⟨S_, .f32⟩
  | 12 => ⟨S2x768, .f32⟩
  | 13 => ⟨S2x768x1, .f32⟩
  | 14 => ⟨S2x768x2, .f32⟩
  | 15 => ⟨S2x768x2, .f32⟩
  | 16 => ⟨S512x12, .f32⟩
  | 17 => ⟨S2x16x16x12, .f32⟩
  | 18 => ⟨S1x1x1x12, .f32⟩
  | 19 => ⟨S2x16x16x12, .f32⟩
  | 20 => ⟨S2x16x16x12, .f32⟩
  | 21 => ⟨S2x768x4, .f32⟩
  | 22 => ⟨S2x261888x2, .f32⟩
  | 23 => ⟨S2x261888x2, .f32⟩
  | 24 => ⟨S2x261888x4, .f32⟩
  | _ => ⟨S2x256x256x256, .f32⟩

abbrev hbmTy (i : Nat) : BufTy := match i / 128 with
  | 0 => hbmTy0_0 i
  | 1 => hbmTy0_1 i
  | 2 => hbmTy0_2 i
  | 3 => hbmTy0_3 i
  | _ => ⟨S2x256x256x256, .f32⟩

abbrev bufTy : (tb : Table) → Fin (tcTables nBuf tb) → BufTy
  | .hbm, ⟨i, _⟩ => hbmTy i
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call1_cst : Ref sig .tc := ⟨.hbm, 61, rfl⟩
abbrev main_call1_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst : Ref sig .tc := ⟨.hbm, 70, rfl⟩
abbrev main_v55 : Ref sig .tc := ⟨.hbm, 71, rfl⟩
abbrev main_cst_0 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_1 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_2 : Ref sig .tc := ⟨.hbm, 90, rfl⟩
abbrev main_call2_v0 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_call3_cst : Ref sig .tc := ⟨.hbm, 140, rfl⟩
abbrev main_call3_v0 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_3 : Ref sig .tc := ⟨.hbm, 149, rfl⟩
abbrev main_v127 : Ref sig .tc := ⟨.hbm, 150, rfl⟩
abbrev main_cst_4 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_5 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_c_6 : Ref sig .tc := ⟨.hbm, 169, rfl⟩
abbrev main_call4_v0 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_call5_cst : Ref sig .tc := ⟨.hbm, 219, rfl⟩
abbrev main_call5_v0 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_cst_7 : Ref sig .tc := ⟨.hbm, 228, rfl⟩
abbrev main_v199 : Ref sig .tc := ⟨.hbm, 229, rfl⟩
abbrev main_cst_8 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_cst_9 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_c_10 : Ref sig .tc := ⟨.hbm, 248, rfl⟩
abbrev main_call6_v0 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_call7_cst : Ref sig .tc := ⟨.hbm, 298, rfl⟩
abbrev main_call7_v0 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_cst_11 : Ref sig .tc := ⟨.hbm, 307, rfl⟩
abbrev main_v271 : Ref sig .tc := ⟨.hbm, 308, rfl⟩
abbrev main_cst_12 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_cst_13 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_c_14 : Ref sig .tc := ⟨.hbm, 327, rfl⟩
abbrev main_call8_v0 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_call9_cst : Ref sig .tc := ⟨.hbm, 377, rfl⟩
abbrev main_call9_v0 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩
abbrev main_v340 : Ref sig .tc := ⟨.hbm, 383, rfl⟩
abbrev main_v341 : Ref sig .tc := ⟨.hbm, 384, rfl⟩
abbrev main_v342 : Ref sig .tc := ⟨.hbm, 385, rfl⟩
abbrev main_cst_15 : Ref sig .tc := ⟨.hbm, 386, rfl⟩
abbrev main_v343 : Ref sig .tc := ⟨.hbm, 387, rfl⟩
abbrev main_cst_16 : Ref sig .tc := ⟨.hbm, 388, rfl⟩
abbrev main_v344 : Ref sig .tc := ⟨.hbm, 389, rfl⟩
abbrev main_v345 : Ref sig .tc := ⟨.hbm, 390, rfl⟩
abbrev main_v346 : Ref sig .tc := ⟨.hbm, 391, rfl⟩
abbrev main_v347 : Ref sig .tc := ⟨.hbm, 392, rfl⟩
abbrev main_v348 : Ref sig .tc := ⟨.hbm, 393, rfl⟩
abbrev main_v349 : Ref sig .tc := ⟨.hbm, 394, rfl⟩
abbrev main_cst_17 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩

abbrev nD : Nat := 1
abbrev τ : Topo := Topo.v7x

variable {F : FTy → Type} [FloatOps F]
-- ==== Proof.Strided.lean ====
/- Three row-strided writes of one block: the writes of rows a, a+3, a+6, … for a = 0, 1, 2 fill the block, and what is
   left at row r is the write of class r mod 3, read at row r / 3. -/
module

public import Idealize.ShloMosaic.Lib.Pipeline.FrameBody

@[expose] public section

noncomputable section

namespace Cert.Rpn

open Idealize.ShloMosaic

variable {Val : EltTy → Type} {e : EltTy} {M N D : ℕ}

/-- A block of M rows of D lanes, behind a leading unit axis. -/
abbrev Blk (M D : ℕ) : Shape := ⟨3, ![1, M, D]⟩

/-- Rows a, a + 3, … are rows of the block. -/
abbrev Fits (M N D a : ℕ) : Prop := ∀ x, (Blk N D).size x = 0
  ∨ (![0, a, 0] : Fin 3 → ℕ) x + (![1, 3, 1] : Fin 3 → ℕ) x * ((Blk N D).size x - 1) < (Blk M D).size x

/-- The row step is positive. -/
abbrev Steps : Prop := ∀ x, 0 < (![1, 3, 1] : Fin 3 → ℕ) x

/-- Rows a, a + 3, a + 6, … (N of them) of the block. -/
abbrev stripe (M N D a : ℕ) (inb : Fits M N D a) (pos : Steps) : Rect (Blk M D) :=
  ⟨(⟨![0, a, 0], (Blk N D).size, ![1, 3, 1], inb⟩ : LoadRect (Blk M D)), pos⟩

/-- The place of row r of the block in the array of its class: row r / 3, same lane. -/
def third (h : M = 3 * N) (y : (Blk M D).Idx) : (Blk N D).Idx := fun a => match a with
  | 0 => y 0
  | 1 => (⟨(y 1).val / 3, by have : (y 1).val < M := (y 1).isLt; omega⟩ : Fin N)
  | 2 => y 2

/-- The block whose row r is row r / 3 of the array of its class r mod 3. -/
def weave {α : Type} (w0 w1 w2 : (Blk N D).Idx → α) (h : M = 3 * N) (y : (Blk M D).Idx) : α :=
  if (y 1).val % 3 = 0 then w0 (third h y) else if (y 1).val % 3 = 1 then w1 (third h y) else w2 (third h y)

/-- A row of class a lies on the stripe a, at the place its quotient names. -/
theorem stripe_at {a : ℕ} (h : M = 3 * N) (inb pos) (y : (Blk M D).Idx) (hy : (y 1).val % 3 = a) :
    (stripe M N D a inb pos).emb (third h y) = y := by
  funext k
  apply Fin.ext
  rw [Rect.emb_apply]
  fin_cases k
  · show 0 + 1 * (y 0).val = (y 0).val; omega
  · show a + 3 * ((y 1).val / 3) = (y 1).val; omega
  · show 0 + 1 * (y 2).val = (y 2).val; omega

/-- So it is in it; -/
theorem stripe_mem {a : ℕ} (h : M = 3 * N) (inb pos) (y : (Blk M D).Idx) (hy : (y 1).val % 3 = a) :
    y ∈ (stripe M N D a inb pos).set := by
  have := (stripe M N D a inb pos).toLoadRect.idx_mem (third h y)
  rwa [show (stripe M N D a inb pos).toLoadRect.idx (third h y) = y from stripe_at h inb pos y hy] at this

/-- a row of another class is not. -/
theorem stripe_not {a : ℕ} (ha : a < 3) (inb pos) (y : (Blk M D).Idx) (hy : (y 1).val % 3 ≠ a) :
    y ∉ (stripe M N D a inb pos).set := by
  intro hm
  obtain ⟨j, -, hj⟩ := LoadRect.mem_set _ |>.mp hm 1
  have : (y 1).val = a + 3 * j := hj
  omega

/-- The three writes, the last made first. -/
abbrev stripes (i0 : Fits M N D 0) (i1 : Fits M N D 1) (i2 : Fits M N D 2) (p : Steps)
    (w0 w1 w2 : (Blk N D).Idx → Val e) : List (View.Piece Val (Blk M D) e) :=
  [⟨stripe M N D 2 i2 p, w2⟩, ⟨stripe M N D 1 i1 p, w1⟩, ⟨stripe M N D 0 i0 p, w0⟩]

/-- They cover the block. -/
theorem stripes_cover (h : M = 3 * N) (i0 : Fits M N D 0) (i1 : Fits M N D 1) (i2 : Fits M N D 2) (p : Steps)
    (w0 w1 w2 : (Blk N D).Idx → Val e) (y : (Blk M D).Idx) :
    ∃ q ∈ stripes i0 i1 i2 p w0 w1 w2, y ∈ q.1.set := by
  have hc : (y 1).val % 3 = 0 ∨ (y 1).val % 3 = 1 ∨ (y 1).val % 3 = 2 := by omega
  rcases hc with hc | hc | hc
  · exact ⟨_, .tail _ (.tail _ (.head _)), stripe_mem h i0 p y hc⟩
  · exact ⟨_, .tail _ (.head _), stripe_mem h i1 p y hc⟩
  · exact ⟨_, .head _, stripe_mem h i2 p y hc⟩

/-- On a row of class a, the contents left are the write of stripe a, when it was made last. -/
theorem canon_stripe [∀ e, Nonempty (Val e)] {a : ℕ} (h : M = 3 * N) (i p) (w : (Blk N D).Idx → Val e)
    (L : List (View.Piece Val (Blk M D) e)) (y : (Blk M D).Idx) (hy : (y 1).val % 3 = a) :
    View.canon (⟨stripe M N D a i p, w⟩ :: L) y = w (third h y) := by
  have := View.canon_cons_emb (stripe M N D a i p) w L (third h y)
  rwa [stripe_at h i p y hy] at this

/-- What they leave is the weave. -/
theorem canon_stripes [∀ e, Nonempty (Val e)] (h : M = 3 * N) (i0 : Fits M N D 0) (i1 : Fits M N D 1) (i2 : Fits M N D 2) (p : Steps)
    (w0 w1 w2 : (Blk N D).Idx → Val e) :
    View.canon (stripes i0 i1 i2 p w0 w1 w2) = weave w0 w1 w2 h := by
  funext y
  have hc : (y 1).val % 3 = 0 ∨ (y 1).val % 3 = 1 ∨ (y 1).val % 3 = 2 := by omega
  unfold weave
  rcases hc with hc | hc | hc
  · refine ((View.canon_cons_of_not_mem ⟨stripe M N D 2 i2 p, w2⟩ _ (stripe_not (by omega) i2 p y (by omega))).trans
      (View.canon_cons_of_not_mem ⟨stripe M N D 1 i1 p, w1⟩ _ (stripe_not (by omega) i1 p y (by omega)))).trans ?_
    rw [canon_stripe h i0 p w0 [] y hc, if_pos hc]
  · refine (View.canon_cons_of_not_mem ⟨stripe M N D 2 i2 p, w2⟩ _ (stripe_not (by omega) i2 p y (by omega))).trans ?_
    rw [canon_stripe h i1 p w1 _ y hc, if_neg (by omega), if_pos hc]
  · rw [canon_stripe h _ _ _ _ y hc, if_neg (by omega), if_neg (by omega)]

end Cert.Rpn

end
-- ==== Proof.Body.lean ====
/- The level kernel's body as one program over the block sizes, and its run: five printed bodies are instances of it. -/
module

public import proofs.«01_k».proof.Proof.Strided
public import Idealize.ShloMosaic.Lib.Pipeline.FrameBody
public import Idealize.ShloMosaic.Lib.Pipeline.RegionsLoop
public import Idealize.ShloMosaic.Lib.Ring
public import Idealize.ShloMosaic.Lib.Tactic

@[expose] public section

set_option maxRecDepth 16384

noncomputable section

namespace Cert.Rpn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {nD : ℕ} {τ : Topo} {sig : RefSig} {Λ : Labels}

local notation "𝕄" => MT nD τ sig Unit (Elt F) ℕ (UR sig nD τ) ℕ

/-- What one stored stripe is computed from: the seven loaded blocks (previous row, next row, centre rows, the
    convolution's weights and bias, the heads' weights and bias). -/
abbrev Pay (F : FTy → Type) (sp sc : Shape) (N D : ℕ) : Type :=
  Vec F sp .f32 → Vec F sp .f32 → Vec F sc .f32 → Vec F ⟨2, ![2304, 512]⟩ .bf16 → Vec F ⟨2, ![1, 512]⟩ .f32
    → Vec F ⟨2, ![512, 18]⟩ .bf16 → Vec F ⟨2, ![1, 18]⟩ .f32 → Vec F (Blk N D) .f32

/-- Load a whole block. -/
abbrev rd {s : Shape} {e : EltTy} (m : Memref sig .tc .vmem s e) (off : Fin s.rank → ℕ) (inb : ∀ a, off a + s.size a ≤ s.size a)
    (h : 0 < s.numel) : Prog (TpuEff nD τ sig (Elt F) Λ .tc) (Vec F s e) :=
  Prog.lift (.load m (Rect.unit (s := s) off s.size inb).toLoadRect (View.loadsAt_vmem h))

/-- Load a stripe (the value is dropped) and store into it. -/
abbrev wr {M N D a : ℕ} (m : Memref sig .tc .vmem (Blk M D) .f32) (i : Fits M N D a) (p : Steps) (h : 0 < (Blk N D).numel)
    (v : Vec F (Blk N D) .f32) : Prog (TpuEff nD τ sig (Elt F) Λ .tc) PUnit := do
  let _ ← Prog.lift (.load m (stripe M N D a i p).toLoadRect (View.loadsAt_vmem h))
  Prog.lift (.store m (stripe M N D a i p) v Finset.univ (View.stores_vmem_bits_univ h rfl) (.inl rfl))

/-- The level kernel's body: seven loads, then for each of the three anchors a stripe of logits, of probabilities and
    of deltas. -/
def level (sp sc : Shape) (M N : ℕ) (op : Fin sp.rank → ℕ) (oc : Fin sc.rank → ℕ)
    (a2 : Memref sig .tc .vmem sp .f32) (a3 : Memref sig .tc .vmem sc .f32) (a4 : Memref sig .tc .vmem sp .f32)
    (a5 : Memref sig .tc .vmem ⟨2, ![2304, 512]⟩ .bf16) (a6 : Memref sig .tc .vmem ⟨2, ![512, 18]⟩ .bf16)
    (a7 : Memref sig .tc .vmem ⟨2, ![1, 512]⟩ .f32) (a8 : Memref sig .tc .vmem ⟨2, ![1, 18]⟩ .f32)
    (a9 : Memref sig .tc .vmem (Blk M 2) .f32) (a10 : Memref sig .tc .vmem (Blk M 2) .f32) (a11 : Memref sig .tc .vmem (Blk M 4) .f32)
    (ip : ∀ a, op a + sp.size a ≤ sp.size a) (ic : ∀ a, oc a + sc.size a ≤ sc.size a)
    (i5 : ∀ a, (![0, 0] : Fin 2 → ℕ) a + (⟨2, ![2304, 512]⟩ : Shape).size a ≤ (⟨2, ![2304, 512]⟩ : Shape).size a)
    (i6 : ∀ a, (![0, 0] : Fin 2 → ℕ) a + (⟨2, ![512, 18]⟩ : Shape).size a ≤ (⟨2, ![512, 18]⟩ : Shape).size a)
    (i7 : ∀ a, (![0, 0] : Fin 2 → ℕ) a + (⟨2, ![1, 512]⟩ : Shape).size a ≤ (⟨2, ![1, 512]⟩ : Shape).size a)
    (i8 : ∀ a, (![0, 0] : Fin 2 → ℕ) a + (⟨2, ![1, 18]⟩ : Shape).size a ≤ (⟨2, ![1, 18]⟩ : Shape).size a)
    (hp : 0 < sp.numel) (hc : 0 < sc.numel) (h5 : 0 < (⟨2, ![2304, 512]⟩ : Shape).numel) (h6 : 0 < (⟨2, ![512, 18]⟩ : Shape).numel)
    (h7 : 0 < (⟨2, ![1, 512]⟩ : Shape).numel) (h8 : 0 < (⟨2, ![1, 18]⟩ : Shape).numel)
    (l0 : Fits M N 2 0) (l1 : Fits M N 2 1) (l2 : Fits M N 2 2) (d0 : Fits M N 4 0) (d1 : Fits M N 4 1) (d2 : Fits M N 4 2) (st : Steps)
    (h2 : 0 < (Blk N 2).numel) (h4 : 0 < (Blk N 4).numel)
    (pl0 pl1 pl2 pp0 pp1 pp2 : Pay F sp sc N 2) (pd0 pd1 pd2 : Pay F sp sc N 4) : Prog (TpuEff nD τ sig (Elt F) Λ .tc) PUnit := do
  let v1 ← rd a2 op ip hp
  let v7 ← rd a4 op ip hp
  let v12 ← rd a3 oc ic hc
  let v37 ← rd a5 ![0, 0] i5 h5
  let v40 ← rd a7 ![0, 0] i7 h7
  let v47 ← rd a6 ![0, 0] i6 h6
  let v50 ← rd a8 ![0, 0] i8 h8
  wr a9 l0 st h2 (pl0 v1 v7 v12 v37 v40 v47 v50)
  wr a10 l0 st h2 (pp0 v1 v7 v12 v37 v40 v47 v50)
  wr a11 d0 st h4 (pd0 v1 v7 v12 v37 v40 v47 v50)
  wr a9 l1 st h2 (pl1 v1 v7 v12 v37 v40 v47 v50)
  wr a10 l1 st h2 (pp1 v1 v7 v12 v37 v40 v47 v50)
  wr a11 d1 st h4 (pd1 v1 v7 v12 v37 v40 v47 v50)
  wr a9 l2 st h2 (pl2 v1 v7 v12 v37 v40 v47 v50)
  wr a10 l2 st h2 (pp2 v1 v7 v12 v37 v40 v47 v50)
  wr a11 d2 st h4 (pd2 v1 v7 v12 v37 v40 v47 v50)

/-- A load of everything is a read. -/
theorem readAt_all {s : Shape} {e : EltTy} (v : View sig .tc .vmem s e) (f : v.ty.Contents (Elt F)) {off : Fin s.rank → ℕ} (h : off = fun _ => 0)
    (inb : ∀ a, off a + s.size a ≤ s.size a) : v.readAt (Elt F) (Rect.unit (s := s) off s.size inb).toLoadRect f = v.read (Elt F) f := by
  subst h
  funext j
  rw [View.readAt_apply]
  congr 1
  funext a
  apply Fin.ext
  show 0 + 1 * (j a).val = (j a).val
  omega

/-- The offsets of a whole matrix. -/
theorem zero2 : (![0, 0] : Fin 2 → ℕ) = fun _ => 0 := by
  funext a; fin_cases a <;> rfl

theorem zero4 : (![0, 0, 0, 0] : Fin 4 → ℕ) = fun _ => 0 := by
  funext a; fin_cases a <;> rfl

/-- Its run on whole buffers: the seven inputs are read and kept, and each output is left woven from its three
    stripes, whatever it held. -/
theorem level_run {sp sc : Shape} {M N : ℕ} {op : Fin sp.rank → ℕ} {oc : Fin sc.rank → ℕ} (defs : Defs nD τ sig (Elt F) Λ)
    (c : Dev nD) (E : Set ℕ)
    (a2 : Memref sig .tc .vmem sp .f32) (a3 : Memref sig .tc .vmem sc .f32) (a4 : Memref sig .tc .vmem sp .f32)
    (a5 : Memref sig .tc .vmem ⟨2, ![2304, 512]⟩ .bf16) (a6 : Memref sig .tc .vmem ⟨2, ![512, 18]⟩ .bf16)
    (a7 : Memref sig .tc .vmem ⟨2, ![1, 512]⟩ .f32) (a8 : Memref sig .tc .vmem ⟨2, ![1, 18]⟩ .f32)
    (a9 : Memref sig .tc .vmem (Blk M 2) .f32) (a10 : Memref sig .tc .vmem (Blk M 2) .f32) (a11 : Memref sig .tc .vmem (Blk M 4) .f32)
    {ip ic i5 i6 i7 i8 hp hc h5 h6 h7 h8 l0 l1 l2 d0 d1 d2 st h2 h4}
    (pl0 pl1 pl2 pp0 pp1 pp2 : Pay F sp sc N 2) (pd0 pd1 pd2 : Pay F sp sc N 4) (hM : M = 3 * N) (hop : op = fun _ => 0) (hoc : oc = fun _ => 0)
    (x0 x2 : Vec F sp .f32) (x1 : Vec F sc .f32) (x3 : Vec F ⟨2, ![2304, 512]⟩ .bf16) (x4 : Vec F ⟨2, ![512, 18]⟩ .bf16)
    (x5 : Vec F ⟨2, ![1, 512]⟩ .f32) (x6 : Vec F ⟨2, ![1, 18]⟩ .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6
        ∗ (∃ d, owns (c : Thread nD τ) a9 fullShare d) ∗ (∃ d, owns (c : Thread nD τ) a10 fullShare d) ∗ (∃ d, owns (c : Thread nD τ) a11 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6
            ∗ owns (c : Thread nD τ) a9 fullShare (weave (pl0 x0 x2 x1 x3 x5 x4 x6) (pl1 x0 x2 x1 x3 x5 x4 x6) (pl2 x0 x2 x1 x3 x5 x4 x6) hM)
            ∗ owns (c : Thread nD τ) a10 fullShare (weave (pp0 x0 x2 x1 x3 x5 x4 x6) (pp1 x0 x2 x1 x3 x5 x4 x6) (pp2 x0 x2 x1 x3 x5 x4 x6) hM)
            ∗ owns (c : Thread nD τ) a11 fullShare (weave (pd0 x0 x2 x1 x3 x5 x4 x6) (pd1 x0 x2 x1 x3 x5 x4 x6) (pd2 x0 x2 x1 x3 x5 x4 x6) hM)) -∗ K ⟨⟩))
      ⊢ wp frame (wpE defs Variants.none c none) E (level sp sc M N op oc a2 a3 a4 a5 a6 a7 a8 a9 a10 a11
          ip ic i5 i6 i7 i8 hp hc h5 h6 h7 h8 l0 l1 l2 d0 d1 d2 st h2 h4 pl0 pl1 pl2 pp0 pp1 pp2 pd0 pd1 pd2) K := by
  subst hop hoc
  unfold level owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  have e0 := readAt_all a2.view f0 rfl ip
  have e1 := readAt_all a3.view f1 rfl ic
  have e2 := readAt_all a4.view f2 rfl ip
  have e3 := readAt_all a5.view f3 zero2 i5
  have e4 := readAt_all a6.view f4 zero2 i6
  have e5 := readAt_all a7.view f5 zero2 i7
  have e6 := readAt_all a8.view f6 zero2 i8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine ((View.read_writes_eq_canon _ _ _ (stripes_cover hM l0 l1 l2 st _ _ _)).trans (canon_stripes hM l0 l1 l2 st _ _ _)).trans ?_
    rfl
  isplitl [H8]
  · iexists _; isplitr
    swap; · iexact H8
    ipureintro
    refine ((View.read_writes_eq_canon _ _ _ (stripes_cover hM l0 l1 l2 st _ _ _)).trans (canon_stripes hM l0 l1 l2 st _ _ _)).trans ?_
    rfl
  · iexists _; isplitr
    swap; · iexact H9
    ipureintro
    refine ((View.read_writes_eq_canon _ _ _ (stripes_cover hM d0 d1 d2 st _ _ _)).trans (canon_stripes hM d0 d1 d2 st _ _ _)).trans ?_
    rfl

/-- The same as a body obligation asks it: each input's buffer holds a block `x` whatever it held before the fetch, an
    invariant `Φ` and the debts `O` pass through. -/
theorem level_body {sp sc : Shape} {M N : ℕ} {op : Fin sp.rank → ℕ} {oc : Fin sc.rank → ℕ} (defs : Defs nD τ sig (Elt F) Λ)
    (c : Dev nD) (E : Set ℕ)
    (a2 : Memref sig .tc .vmem sp .f32) (a3 : Memref sig .tc .vmem sc .f32) (a4 : Memref sig .tc .vmem sp .f32)
    (a5 : Memref sig .tc .vmem ⟨2, ![2304, 512]⟩ .bf16) (a6 : Memref sig .tc .vmem ⟨2, ![512, 18]⟩ .bf16)
    (a7 : Memref sig .tc .vmem ⟨2, ![1, 512]⟩ .f32) (a8 : Memref sig .tc .vmem ⟨2, ![1, 18]⟩ .f32)
    (a9 : Memref sig .tc .vmem (Blk M 2) .f32) (a10 : Memref sig .tc .vmem (Blk M 2) .f32) (a11 : Memref sig .tc .vmem (Blk M 4) .f32)
    {ip ic i5 i6 i7 i8 hp hc h5 h6 h7 h8 l0 l1 l2 d0 d1 d2 st h2 h4}
    (pl0 pl1 pl2 pp0 pp1 pp2 : Pay F sp sc N 2) (pd0 pd1 pd2 : Pay F sp sc N 4) (hM : M = 3 * N) (hop : op = fun _ => 0) (hoc : oc = fun _ => 0)
    {x0 x2 : Vec F sp .f32} {x1 : Vec F sc .f32} {x3 : Vec F ⟨2, ![2304, 512]⟩ .bf16} {x4 : Vec F ⟨2, ![512, 18]⟩ .bf16}
    {x5 : Vec F ⟨2, ![1, 512]⟩ .f32} {x6 : Vec F ⟨2, ![1, 18]⟩ .f32} (Φ O : sProp 𝕄)
    {D0 D1 D2 D3 D4 D5 D6 D7 D8 D9 : Type} {b0 : D0 → Vec F sp .f32} {b1 : D1 → Vec F sc .f32} {b2 : D2 → Vec F sp .f32}
    {b3 : D3 → Vec F ⟨2, ![2304, 512]⟩ .bf16} {b4 : D4 → Vec F ⟨2, ![512, 18]⟩ .bf16} {b5 : D5 → Vec F ⟨2, ![1, 512]⟩ .f32}
    {b6 : D6 → Vec F ⟨2, ![1, 18]⟩ .f32} {b7 : D7 → Vec F (Blk M 2) .f32} {b8 : D8 → Vec F (Blk M 2) .f32} {b9 : D9 → Vec F (Blk M 4) .f32}
    (hb0 : ∀ d, b0 d = x0) (hb1 : ∀ d, b1 d = x1) (hb2 : ∀ d, b2 d = x2) (hb3 : ∀ d, b3 d = x3) (hb4 : ∀ d, b4 d = x4)
    (hb5 : ∀ d, b5 d = x5) (hb6 : ∀ d, b6 d = x6) :
    iprop(Φ ∗ O ∗ (∃ d, owns (c : Thread nD τ) a2 fullShare (b0 d)) ∗ (∃ d, owns (c : Thread nD τ) a3 fullShare (b1 d))
        ∗ (∃ d, owns (c : Thread nD τ) a4 fullShare (b2 d)) ∗ (∃ d, owns (c : Thread nD τ) a5 fullShare (b3 d))
        ∗ (∃ d, owns (c : Thread nD τ) a6 fullShare (b4 d)) ∗ (∃ d, owns (c : Thread nD τ) a7 fullShare (b5 d))
        ∗ (∃ d, owns (c : Thread nD τ) a8 fullShare (b6 d)) ∗ (∃ d, owns (c : Thread nD τ) a9 fullShare (b7 d))
        ∗ (∃ d, owns (c : Thread nD τ) a10 fullShare (b8 d)) ∗ (∃ d, owns (c : Thread nD τ) a11 fullShare (b9 d)))
      ⊢ wp frame (wpE defs Variants.none c none) E (level sp sc M N op oc a2 a3 a4 a5 a6 a7 a8 a9 a10 a11
          ip ic i5 i6 i7 i8 hp hc h5 h6 h7 h8 l0 l1 l2 d0 d1 d2 st h2 h4 pl0 pl1 pl2 pp0 pp1 pp2 pd0 pd1 pd2) (fun _ =>
        iprop(Φ ∗ O ∗ owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6
            ∗ owns (c : Thread nD τ) a9 fullShare (weave (pl0 x0 x2 x1 x3 x5 x4 x6) (pl1 x0 x2 x1 x3 x5 x4 x6) (pl2 x0 x2 x1 x3 x5 x4 x6) hM)
            ∗ owns (c : Thread nD τ) a10 fullShare (weave (pp0 x0 x2 x1 x3 x5 x4 x6) (pp1 x0 x2 x1 x3 x5 x4 x6) (pp2 x0 x2 x1 x3 x5 x4 x6) hM)
            ∗ owns (c : Thread nD τ) a11 fullShare (weave (pd0 x0 x2 x1 x3 x5 x4 x6) (pd1 x0 x2 x1 x3 x5 x4 x6) (pd2 x0 x2 x1 x3 x5 x4 x6) hM))) := by
  simp only [hb0, hb1, hb2, hb3, hb4, hb5, hb6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (level_run defs c E a2 a3 a4 a5 a6 a7 a8 a9 a10 a11 pl0 pl1 pl2 pp0 pp1 pp2 pd0 pd1 pd2 hM hop hoc x0 x2 x1 x3 x4 x5 x6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Rpn

end
-- ==== Proof.Level.lean ====
/- The level kernel's values as functions of the block sizes: T centre rows of W columns, N = T · W positions. -/
module

public import proofs.«01_k».proof.Proof.Body

@[expose] public section

noncomputable section

namespace Cert.Rpn

open Idealize.ShloMosaic Idealize.SL.Sem

variable {F : FTy → Type} [FloatOps F]

/-- The shapes of a level. -/
abbrev Halo (W : ℕ) : Shape := ⟨4, ![1, 1, W, 256]⟩
abbrev Ctr (T W : ℕ) : Shape := ⟨4, ![1, T, W, 256]⟩
abbrev Img (T W : ℕ) : Shape := ⟨3, ![T, W, 256]⟩
abbrev Mat (N K : ℕ) : Shape := ⟨2, ![N, K]⟩

/-- What the shapes of a level satisfy: each reshape, slice, concatenation, product and broadcast of its body is legal. -/
structure Geo (T W N : ℕ) : Prop where
  narrow : FTy.bits .bf16 < FTy.bits .f32
  halo : (Halo W).ShapeCasts (Img 1 W)
  ctr : (Ctr T W).ShapeCasts (Img T W)
  rows : Shape.Concatenates [Img 1 W, Img T W, Img 1 W] (Img (T + 2) W) 0
  cols : Shape.Concatenates [Img (T + 2) 1, Img (T + 2) W, Img (T + 2) 1] (Img (T + 2) (W + 2)) 1
  flat : (Img T W).ShapeCasts (Mat N 256)
  s00 : (Img (T + 2) (W + 2)).Slices ![0, 0, 0] (Img T W)
  s01 : (Img (T + 2) (W + 2)).Slices ![0, 1, 0] (Img T W)
  s02 : (Img (T + 2) (W + 2)).Slices ![0, 2, 0] (Img T W)
  s10 : (Img (T + 2) (W + 2)).Slices ![1, 0, 0] (Img T W)
  s11 : (Img (T + 2) (W + 2)).Slices ![1, 1, 0] (Img T W)
  s12 : (Img (T + 2) (W + 2)).Slices ![1, 2, 0] (Img T W)
  s20 : (Img (T + 2) (W + 2)).Slices ![2, 0, 0] (Img T W)
  s21 : (Img (T + 2) (W + 2)).Slices ![2, 1, 0] (Img T W)
  s22 : (Img (T + 2) (W + 2)).Slices ![2, 2, 0] (Img T W)
  taps : Shape.Concatenates [Mat N 256, Mat N 256, Mat N 256, Mat N 256, Mat N 256, Mat N 256, Mat N 256, Mat N 256, Mat N 256] (Mat N 2304) 1
  wsh : (Mat 2304 512).ShapeCasts (Mat 2304 512)
  bsh : (Mat 1 512).ShapeCasts (Mat 1 512)
  wcat : (Mat 512 18).ShapeCasts (Mat 512 18)
  bcat : (Mat 1 18).ShapeCasts (Mat 1 18)
  bb : (Mat 1 512).Broadcasts (Mat N 512)
  bh : (Mat 1 18).Broadcasts (Mat N 18)
  dconv : DotDims.WF (Mat N 2304) (Mat 2304 512) (Mat N 512) [1] [0] [0] [1] [] []
  dhead : DotDims.WF (Mat N 512) (Mat 512 18) (Mat N 18) [1] [0] [0] [1] [] []
  dswap : DotDims.WF (Mat N 6) (Mat 6 6) (Mat N 6) [1] [0] [0] [1] [] []
  lsl : (Mat N 18).Slices ![0, 0] (Mat N 6)
  dsl : (Mat N 18).Slices ![0, 6] (Mat N 12)
  io0 : (Mat 6 6).Iotas .tc 32 [0]
  io1 : (Mat 6 6).Iotas .tc 32 [1]
  w1 : 1 < 32
  l0 : (Mat N 6).Slices ![0, 0] (Mat N 2)
  l1 : (Mat N 6).Slices ![0, 2] (Mat N 2)
  l2 : (Mat N 6).Slices ![0, 4] (Mat N 2)
  d0 : (Mat N 12).Slices ![0, 0] (Mat N 4)
  d1 : (Mat N 12).Slices ![0, 4] (Mat N 4)
  d2 : (Mat N 12).Slices ![0, 8] (Mat N 4)
  b2 : (Mat N 2).ShapeCasts (Blk N 2)
  b4 : (Mat N 4).ShapeCasts (Blk N 4)

/-- A plain matrix product. -/
abbrev mm {m k n : ℕ} (h : DotDims.WF (Mat m k) (Mat k n) (Mat m n) [1] [0] [0] [1] [] []) : DotDims (Mat m k) (Mat k n) (Mat m n) where
  lhsContracting := [1]
  rhsContracting := [0]
  lhsNonContracting := [0]
  rhsNonContracting := [1]
  lhsBatch := []
  rhsBatch := []
  wf := h

variable {T W N : ℕ}

/-- A neighbour row, zero where there is none (`off` says so). -/
def edge (g : Geo T W N) (off : BitVec 1) (v : Vec F (Halo W) .f32) : FVec F (Img 1 W) .bf16 :=
  truncf .bf16 (Scalar.select off (broadcast (Img 1 W) (Scalar.ofBits .f32 0x00000000#32)) (shapeCast (Img 1 W) v g.halo)) g.narrow

/-- The rows of the block between its neighbour rows, with a zero column at either side. -/
def padded (g : Geo T W N) (top bot : BitVec 1) (prev next : Vec F (Halo W) .f32) (ctr : Vec F (Ctr T W) .f32) : FVec F (Img (T + 2) (W + 2)) .bf16 :=
  concatenate (Img (T + 2) (W + 2)) 1
    [⟨Img (T + 2) 1, broadcast (Img (T + 2) 1) (Scalar.ofBits .bf16 0x0000#16)⟩,
      ⟨Img (T + 2) W, concatenate (Img (T + 2) W) 0
        [⟨Img 1 W, edge g top prev⟩, ⟨Img T W, truncf .bf16 (shapeCast (Img T W) ctr g.ctr) g.narrow⟩, ⟨Img 1 W, edge g bot next⟩] g.rows⟩,
      ⟨Img (T + 2) 1, broadcast (Img (T + 2) 1) (Scalar.ofBits .bf16 0x0000#16)⟩] g.cols

/-- One tap of the window: the padded block from a corner, a row per position. -/
abbrev tap (g : Geo T W N) (x : FVec F (Img (T + 2) (W + 2)) .bf16) (o : Fin 3 → ℕ) (h : (Img (T + 2) (W + 2)).Slices o (Img T W)) : FVec F (Mat N 256) .bf16 :=
  shapeCast (Mat N 256) (extractStridedSlice (Img T W) o x h) g.flat

/-- The nine taps side by side. -/
def patches (g : Geo T W N) (x : FVec F (Img (T + 2) (W + 2)) .bf16) : FVec F (Mat N 2304) .bf16 :=
  concatenate (Mat N 2304) 1
    [⟨Mat N 256, tap g x ![0, 0, 0] g.s00⟩, ⟨Mat N 256, tap g x ![0, 1, 0] g.s01⟩, ⟨Mat N 256, tap g x ![0, 2, 0] g.s02⟩,
      ⟨Mat N 256, tap g x ![1, 0, 0] g.s10⟩, ⟨Mat N 256, tap g x ![1, 1, 0] g.s11⟩, ⟨Mat N 256, tap g x ![1, 2, 0] g.s12⟩,
      ⟨Mat N 256, tap g x ![2, 0, 0] g.s20⟩, ⟨Mat N 256, tap g x ![2, 1, 0] g.s21⟩, ⟨Mat N 256, tap g x ![2, 2, 0] g.s22⟩] g.taps

/-- The shared convolution with its bias and relu. -/
def shared (g : Geo T W N) (p : FVec F (Mat N 2304) .bf16) (w : Vec F (Mat 2304 512) .bf16) (b : Vec F (Mat 1 512) .f32) : FVec F (Mat N 512) .f32 :=
  maximumf (addf (matmul (mm g.dconv) none p (shapeCast (Mat 2304 512) w g.wsh) (constant (Mat N 512) .f32 0x00000000#32))
    (broadcastTo (Mat N 512) (shapeCast (Mat 1 512) b g.bsh) g.bb)) (broadcast (Mat N 512) (Scalar.ofBits .f32 0x00000000#32))

/-- The two heads in one product: six logits and twelve deltas per position. -/
def heads (g : Geo T W N) (y : FVec F (Mat N 512) .f32) (w : Vec F (Mat 512 18) .bf16) (b : Vec F (Mat 1 18) .f32) : FVec F (Mat N 18) .f32 :=
  addf (matmul (mm g.dhead) none (truncf .bf16 y g.narrow) (shapeCast (Mat 512 18) w g.wcat) (constant (Mat N 18) .f32 0x00000000#32))
    (broadcastTo (Mat N 18) (shapeCast (Mat 1 18) b g.bcat) g.bh)

/-- The matrix that swaps the two lanes of each pair. -/
def swap (g : Geo T W N) : FVec F (Mat 6 6) .f32 :=
  sitofp .f32 (extui 32 (cmpi .eq (xori (iota .tc (Mat 6 6) 32 [0] g.io0) (broadcast (Mat 6 6) 1#32)) (iota .tc (Mat 6 6) 32 [1] g.io1)) g.w1)

/-- The softmax of each pair of logits. -/
def pairs (g : Geo T W N) (l : FVec F (Mat N 6) .f32) : FVec F (Mat N 6) .f32 :=
  let o : FVec F (Mat N 6) .f32 := matmul (mm g.dswap) none l (swap g) (constant (Mat N 6) .f32 0x00000000#32)
  let e : FVec F (Mat N 6) .f32 := exp (subf l (maximumf l o))
  divf e (addf e (exp (subf o (maximumf l o))))

/-- All the loaded blocks to the eighteen outputs of each position. -/
def outs (g : Geo T W N) (top bot : BitVec 1) (prev next : Vec F (Halo W) .f32) (ctr : Vec F (Ctr T W) .f32) (w : Vec F (Mat 2304 512) .bf16)
    (b : Vec F (Mat 1 512) .f32) (wh : Vec F (Mat 512 18) .bf16) (bh : Vec F (Mat 1 18) .f32) : FVec F (Mat N 18) .f32 :=
  heads g (shared g (patches g (padded g top bot prev next ctr)) w b) wh bh

/-- The stripes of an array of six or twelve lanes. -/
abbrev lane2 (g : Geo T W N) (o : Fin 2 → ℕ) (h : (Mat N 6).Slices o (Mat N 2)) (v : FVec F (Mat N 6) .f32) : Vec F (Blk N 2) .f32 :=
  shapeCast (Blk N 2) (extractStridedSlice (Mat N 2) o v h) g.b2
abbrev lane4 (g : Geo T W N) (o : Fin 2 → ℕ) (h : (Mat N 12).Slices o (Mat N 4)) (v : FVec F (Mat N 12) .f32) : Vec F (Blk N 4) .f32 :=
  shapeCast (Blk N 4) (extractStridedSlice (Mat N 4) o v h) g.b4

/-- The six logits, the six probabilities and the twelve deltas of each position. -/
def logits6 (g : Geo T W N) (o : FVec F (Mat N 18) .f32) : FVec F (Mat N 6) .f32 := extractStridedSlice (Mat N 6) ![0, 0] o g.lsl
def deltas12 (g : Geo T W N) (o : FVec F (Mat N 18) .f32) : FVec F (Mat N 12) .f32 := extractStridedSlice (Mat N 12) ![0, 6] o g.dsl

/-- Lanes 2a, 2a + 1 (4a … 4a + 3) of position p are row 3p + a of the block. -/
def weave6 {M : ℕ} (g : Geo T W N) (hM : M = 3 * N) (v : FVec F (Mat N 6) .f32) : Vec F (Blk M 2) .f32 :=
  weave (lane2 g ![0, 0] g.l0 v) (lane2 g ![0, 2] g.l1 v) (lane2 g ![0, 4] g.l2 v) hM
def weave12 {M : ℕ} (g : Geo T W N) (hM : M = 3 * N) (v : FVec F (Mat N 12) .f32) : Vec F (Blk M 4) .f32 :=
  weave (lane4 g ![0, 0] g.d0 v) (lane4 g ![0, 4] g.d1 v) (lane4 g ![0, 8] g.d2 v) hM

/-- The five levels. -/
theorem geo0 : Geo 8 256 2048 := by constructor <;> decide
theorem geo1 : Geo 16 128 2048 := by constructor <;> decide
theorem geo2 : Geo 32 64 2048 := by constructor <;> decide
theorem geo3 : Geo 32 32 1024 := by constructor <;> decide
theorem geo4 : Geo 16 16 256 := by constructor <;> decide

end Cert.Rpn

end
-- ==== Proof.KI.Bodies.lean ====
/- Each printed level kernel is the level program at its sizes. -/
module

public import proofs.«01_k».proof.Proof.Level
public import proofs.«01_k».proof.Proof.Gen.KernelIdeal.Skeleton

@[expose] public section

set_option maxRecDepth 65536

noncomputable section

namespace Cert.KernelIdeal.Gen

open Idealize.ShloMosaic Idealize.SL.Sem Cert.Rpn

variable {F : FTy → Type} [FloatOps F]

/-- The first and the last tile of level 0. -/
abbrev top0 (i : grid0.Coords) : BitVec 1 := Scalar.cmpi .eq (BitVec.ofNat 32 (i 1).val) 0#32
abbrev bot0 (i : grid0.Coords) : BitVec 1 := Scalar.cmpi .eq (BitVec.ofNat 32 (i 1).val) 31#32

/-- The outputs of level 0's body at grid point i. -/
abbrev outs0 (i : grid0.Coords) (prev next : Vec F S1x1x256x256 .f32) (ctr : Vec F S1x8x256x256 .f32) (w : Vec F S2304x512 .bf16)
    (b : Vec F S1x512 .f32) (wh : Vec F S512x18 .bf16) (bh : Vec F S1x18 .f32) : FVec F (Mat 2048 18) .f32 :=
  outs geo0 (top0 i) (bot0 i) prev next ctr w b wh bh

theorem cc0_eq (i : grid0.Coords) a2 h2 a3 h3 a4 h4 a5 h5 a6 h6 a7 h7 a8 h8 a9 h9 a10 h10 a11 h11 :
    cc0__rpn_level_kernel (F := F) i a2 h2 a3 h3 a4 h4 a5 h5 a6 h6 a7 h7 a8 h8 a9 h9 a10 h10 a11 h11
      = level (Halo 256) (Ctr 8 256) 6144 2048 ![0, 0, 0, 0] ![0, 0, 0, 0] a2 a3 a4 a5 a6 a7 a8 a9 a10 a11
        inb_S1x1x256x256_S1x1x256x256_0_0_0_0 inb_S1x8x256x256_S1x8x256x256_0_0_0_0 inb_S2304x512_S2304x512_0_0 inb_S512x18_S512x18_0_0 inb_S1x512_S1x512_0_0 inb_S1x18_S1x18_0_0
        h_S1x1x256x256 h_S1x8x256x256 h_S2304x512 h_S512x18 h_S1x512 h_S1x18
        inb_S1x6144x2_S1x2048x2_0_0_0_s_1_3_1 inb_S1x6144x2_S1x2048x2_0_1_0_s_1_3_1 inb_S1x6144x2_S1x2048x2_0_2_0_s_1_3_1
        inb_S1x6144x4_S1x2048x4_0_0_0_s_1_3_1 inb_S1x6144x4_S1x2048x4_0_1_0_s_1_3_1 inb_S1x6144x4_S1x2048x4_0_2_0_s_1_3_1
        spos_1_3_1 h_S1x2048x2 h_S1x2048x4
        (fun p n c w b wh bh => lane2 geo0 ![0, 0] geo0.l0 (logits6 geo0 (outs0 i p n c w b wh bh)))
        (fun p n c w b wh bh => lane2 geo0 ![0, 2] geo0.l1 (logits6 geo0 (outs0 i p n c w b wh bh)))
        (fun p n c w b wh bh => lane2 geo0 ![0, 4] geo0.l2 (logits6 geo0 (outs0 i p n c w b wh bh)))
        (fun p n c w b wh bh => lane2 geo0 ![0, 0] geo0.l0 (pairs geo0 (logits6 geo0 (outs0 i p n c w b wh bh))))
        (fun p n c w b wh bh => lane2 geo0 ![0, 2] geo0.l1 (pairs geo0 (logits6 geo0 (outs0 i p n c w b wh bh))))
        (fun p n c w b wh bh => lane2 geo0 ![0, 4] geo0.l2 (pairs geo0 (logits6 geo0 (outs0 i p n c w b wh bh))))
        (fun p n c w b wh bh => lane4 geo0 ![0, 0] geo0.d0 (deltas12 geo0 (outs0 i p n c w b wh bh)))
        (fun p n c w b wh bh => lane4 geo0 ![0, 4] geo0.d1 (deltas12 geo0 (outs0 i p n c w b wh bh)))
        (fun p n c w b wh bh => lane4 geo0 ![0, 8] geo0.d2 (deltas12 geo0 (outs0 i p n c w b wh bh))) := by
  rw [cc0__rpn_level_kernel_eq_skeleton]; unfold cc0__rpn_level_kernel_skel
  rw [k0_part1_eq_skeleton, k0_part2_eq_skeleton]
  rfl

/-- The first and the last tile of level 1. -/
abbrev top1 (i : grid1.Coords) : BitVec 1 := Scalar.cmpi .eq (BitVec.ofNat 32 (i 1).val) 0#32
abbrev bot1 (i : grid1.Coords) : BitVec 1 := Scalar.cmpi .eq (BitVec.ofNat 32 (i 1).val) 7#32

/-- The outputs of level 1's body at grid point i. -/
abbrev outs1 (i : grid1.Coords) (prev next : Vec F S1x1x128x256 .f32) (ctr : Vec F S1x16x128x256 .f32) (w : Vec F S2304x512 .bf16)
    (b : Vec F S1x512 .f32) (wh : Vec F S512x18 .bf16) (bh : Vec F S1x18 .f32) : FVec F (Mat 2048 18) .f32 :=
  outs geo1 (top1 i) (bot1 i) prev next ctr w b wh bh

theorem cc1_eq (i : grid1.Coords) a2 h2 a3 h3 a4 h4 a5 h5 a6 h6 a7 h7 a8 h8 b0 hb0 b1 hb1 b2 hb2 a9 h9 a10 h10 a11 h11 :
    cc1__rpn_level_kernel (F := F) i a2 h2 a3 h3 a4 h4 a5 h5 a6 h6 a7 h7 a8 h8 b0 hb0 b1 hb1 b2 hb2 a9 h9 a10 h10 a11 h11
      = level (Halo 128) (Ctr 16 128) 6144 2048 ![0, 0, 0, 0] ![0, 0, 0, 0] a2 a3 a4 a5 a6 a7 a8 a9 a10 a11
        inb_S1x1x128x256_S1x1x128x256_0_0_0_0 inb_S1x16x128x256_S1x16x128x256_0_0_0_0 inb_S2304x512_S2304x512_0_0 inb_S512x18_S512x18_0_0 inb_S1x512_S1x512_0_0 inb_S1x18_S1x18_0_0
        h_S1x1x128x256 h_S1x16x128x256 h_S2304x512 h_S512x18 h_S1x512 h_S1x18
        inb_S1x6144x2_S1x2048x2_0_0_0_s_1_3_1 inb_S1x6144x2_S1x2048x2_0_1_0_s_1_3_1 inb_S1x6144x2_S1x2048x2_0_2_0_s_1_3_1
        inb_S1x6144x4_S1x2048x4_0_0_0_s_1_3_1 inb_S1x6144x4_S1x2048x4_0_1_0_s_1_3_1 inb_S1x6144x4_S1x2048x4_0_2_0_s_1_3_1
        spos_1_3_1 h_S1x2048x2 h_S1x2048x4
        (fun p n c w b wh bh => lane2 geo1 ![0, 0] geo1.l0 (logits6 geo1 (outs1 i p n c w b wh bh)))
        (fun p n c w b wh bh => lane2 geo1 ![0, 2] geo1.l1 (logits6 geo1 (outs1 i p n c w b wh bh)))
        (fun p n c w b wh bh => lane2 geo1 ![0, 4] geo1.l2 (logits6 geo1 (outs1 i p n c w b wh bh)))
        (fun p n c w b wh bh => lane2 geo1 ![0, 0] geo1.l0 (pairs geo1 (logits6 geo1 (outs1 i p n c w b wh bh))))
        (fun p n c w b wh bh => lane2 geo1 ![0, 2] geo1.l1 (pairs geo1 (logits6 geo1 (outs1 i p n c w b wh bh))))
        (fun p n c w b wh bh => lane2 geo1 ![0, 4] geo1.l2 (pairs geo1 (logits6 geo1 (outs1 i p n c w b wh bh))))
        (fun p n c w b wh bh => lane4 geo1 ![0, 0] geo1.d0 (deltas12 geo1 (outs1 i p n c w b wh bh)))
        (fun p n c w b wh bh => lane4 geo1 ![0, 4] geo1.d1 (deltas12 geo1 (outs1 i p n c w b wh bh)))
        (fun p n c w b wh bh => lane4 geo1 ![0, 8] geo1.d2 (deltas12 geo1 (outs1 i p n c w b wh bh))) := by
  rw [cc1__rpn_level_kernel_eq_skeleton]; unfold cc1__rpn_level_kernel_skel
  rw [k1_part1_eq_skeleton, k1_part2_eq_skeleton]
  rfl

/-- The first and the last tile of level 2. -/
abbrev top2 (i : grid2.Coords) : BitVec 1 := Scalar.cmpi .eq (BitVec.ofNat 32 (i 1).val) 0#32
abbrev bot2 (i : grid2.Coords) : BitVec 1 := Scalar.cmpi .eq (BitVec.ofNat 32 (i 1).val) 1#32

/-- The outputs of level 2's body at grid point i. -/
abbrev outs2 (i : grid2.Coords) (prev next : Vec F S1x1x64x256 .f32) (ctr : Vec F S1x32x64x256 .f32) (w : Vec F S2304x512 .bf16)
    (b : Vec F S1x512 .f32) (wh : Vec F S512x18 .bf16) (bh : Vec F S1x18 .f32) : FVec F (Mat 2048 18) .f32 :=
  outs geo2 (top2 i) (bot2 i) prev next ctr w b wh bh

theorem cc2_eq (i : grid2.Coords) a2 h2 a3 h3 a4 h4 a5 h5 a6 h6 a7 h7 a8 h8 b0 hb0 b1 hb1 b2 hb2 a9 h9 a10 h10 a11 h11 :
    cc2__rpn_level_kernel (F := F) i a2 h2 a3 h3 a4 h4 a5 h5 a6 h6 a7 h7 a8 h8 b0 hb0 b1 hb1 b2 hb2 a9 h9 a10 h10 a11 h11
      = level (Halo 64) (Ctr 32 64) 6144 2048 ![0, 0, 0, 0] ![0, 0, 0, 0] a2 a3 a4 a5 a6 a7 a8 a9 a10 a11
        inb_S1x1x64x256_S1x1x64x256_0_0_0_0 inb_S1x32x64x256_S1x32x64x256_0_0_0_0 inb_S2304x512_S2304x512_0_0 inb_S512x18_S512x18_0_0 inb_S1x512_S1x512_0_0 inb_S1x18_S1x18_0_0
        h_S1x1x64x256 h_S1x32x64x256 h_S2304x512 h_S512x18 h_S1x512 h_S1x18
        inb_S1x6144x2_S1x2048x2_0_0_0_s_1_3_1 inb_S1x6144x2_S1x2048x2_0_1_0_s_1_3_1 inb_S1x6144x2_S1x2048x2_0_2_0_s_1_3_1
        inb_S1x6144x4_S1x2048x4_0_0_0_s_1_3_1 inb_S1x6144x4_S1x2048x4_0_1_0_s_1_3_1 inb_S1x6144x4_S1x2048x4_0_2_0_s_1_3_1
        spos_1_3_1 h_S1x2048x2 h_S1x2048x4
        (fun p n c w b wh bh => lane2 geo2 ![0, 0] geo2.l0 (logits6 geo2 (outs2 i p n c w b wh bh)))
        (fun p n c w b wh bh => lane2 geo2 ![0, 2] geo2.l1 (logits6 geo2 (outs2 i p n c w b wh bh)))
        (fun p n c w b wh bh => lane2 geo2 ![0, 4] geo2.l2 (logits6 geo2 (outs2 i p n c w b wh bh)))
        (fun p n c w b wh bh => lane2 geo2 ![0, 0] geo2.l0 (pairs geo2 (logits6 geo2 (outs2 i p n c w b wh bh))))
        (fun p n c w b wh bh => lane2 geo2 ![0, 2] geo2.l1 (pairs geo2 (logits6 geo2 (outs2 i p n c w b wh bh))))
        (fun p n c w b wh bh => lane2 geo2 ![0, 4] geo2.l2 (pairs geo2 (logits6 geo2 (outs2 i p n c w b wh bh))))
        (fun p n c w b wh bh => lane4 geo2 ![0, 0] geo2.d0 (deltas12 geo2 (outs2 i p n c w b wh bh)))
        (fun p n c w b wh bh => lane4 geo2 ![0, 4] geo2.d1 (deltas12 geo2 (outs2 i p n c w b wh bh)))
        (fun p n c w b wh bh => lane4 geo2 ![0, 8] geo2.d2 (deltas12 geo2 (outs2 i p n c w b wh bh))) := by
  rw [cc2__rpn_level_kernel_eq_skeleton]; unfold cc2__rpn_level_kernel_skel
  rw [k2_part1_eq_skeleton, k2_part2_eq_skeleton]
  rfl

/-- The first and the last tile of level 3. -/
abbrev top3 (i : grid3.Coords) : BitVec 1 := Scalar.cmpi .eq (BitVec.ofNat 32 (i 1).val) 0#32
abbrev bot3 (i : grid3.Coords) : BitVec 1 := Scalar.cmpi .eq (BitVec.ofNat 32 (i 1).val) 0#32

/-- The outputs of level 3's body at grid point i. -/
abbrev outs3 (i : grid3.Coords) (prev next : Vec F S1x1x32x256 .f32) (ctr : Vec F S1x32x32x256 .f32) (w : Vec F S2304x512 .bf16)
    (b : Vec F S1x512 .f32) (wh : Vec F S512x18 .bf16) (bh : Vec F S1x18 .f32) : FVec F (Mat 1024 18) .f32 :=
  outs geo3 (top3 i) (bot3 i) prev next ctr w b wh bh

theorem cc3_eq (i : grid3.Coords) a2 h2 a3 h3 a4 h4 a5 h5 a6 h6 a7 h7 a8 h8 b0 hb0 b1 hb1 b2 hb2 a9 h9 a10 h10 a11 h11 :
    cc3__rpn_level_kernel (F := F) i a2 h2 a3 h3 a4 h4 a5 h5 a6 h6 a7 h7 a8 h8 b0 hb0 b1 hb1 b2 hb2 a9 h9 a10 h10 a11 h11
      = level (Halo 32) (Ctr 32 32) 3072 1024 ![0, 0, 0, 0] ![0, 0, 0, 0] a2 a3 a4 a5 a6 a7 a8 a9 a10 a11
        inb_S1x1x32x256_S1x1x32x256_0_0_0_0 inb_S1x32x32x256_S1x32x32x256_0_0_0_0 inb_S2304x512_S2304x512_0_0 inb_S512x18_S512x18_0_0 inb_S1x512_S1x512_0_0 inb_S1x18_S1x18_0_0
        h_S1x1x32x256 h_S1x32x32x256 h_S2304x512 h_S512x18 h_S1x512 h_S1x18
        inb_S1x3072x2_S1x1024x2_0_0_0_s_1_3_1 inb_S1x3072x2_S1x1024x2_0_1_0_s_1_3_1 inb_S1x3072x2_S1x1024x2_0_2_0_s_1_3_1
        inb_S1x3072x4_S1x1024x4_0_0_0_s_1_3_1 inb_S1x3072x4_S1x1024x4_0_1_0_s_1_3_1 inb_S1x3072x4_S1x1024x4_0_2_0_s_1_3_1
        spos_1_3_1 h_S1x1024x2 h_S1x1024x4
        (fun p n c w b wh bh => lane2 geo3 ![0, 0] geo3.l0 (logits6 geo3 (outs3 i p n c w b wh bh)))
        (fun p n c w b wh bh => lane2 geo3 ![0, 2] geo3.l1 (logits6 geo3 (outs3 i p n c w b wh bh)))
        (fun p n c w b wh bh => lane2 geo3 ![0, 4] geo3.l2 (logits6 geo3 (outs3 i p n c w b wh bh)))
        (fun p n c w b wh bh => lane2 geo3 ![0, 0] geo3.l0 (pairs geo3 (logits6 geo3 (outs3 i p n c w b wh bh))))
        (fun p n c w b wh bh => lane2 geo3 ![0, 2] geo3.l1 (pairs geo3 (logits6 geo3 (outs3 i p n c w b wh bh))))
        (fun p n c w b wh bh => lane2 geo3 ![0, 4] geo3.l2 (pairs geo3 (logits6 geo3 (outs3 i p n c w b wh bh))))
        (fun p n c w b wh bh => lane4 geo3 ![0, 0] geo3.d0 (deltas12 geo3 (outs3 i p n c w b wh bh)))
        (fun p n c w b wh bh => lane4 geo3 ![0, 4] geo3.d1 (deltas12 geo3 (outs3 i p n c w b wh bh)))
        (fun p n c w b wh bh => lane4 geo3 ![0, 8] geo3.d2 (deltas12 geo3 (outs3 i p n c w b wh bh))) := by
  rw [cc3__rpn_level_kernel_eq_skeleton]; unfold cc3__rpn_level_kernel_skel
  rw [k3_part1_eq_skeleton, k3_part2_eq_skeleton]
  rfl

/-- The first and the last tile of level 4. -/
abbrev top4 (i : grid4.Coords) : BitVec 1 := Scalar.cmpi .eq (BitVec.ofNat 32 (i 1).val) 0#32
abbrev bot4 (i : grid4.Coords) : BitVec 1 := Scalar.cmpi .eq (BitVec.ofNat 32 (i 1).val) 0#32

/-- The outputs of level 4's body at grid point i. -/
abbrev outs4 (i : grid4.Coords) (prev next : Vec F S1x1x16x256 .f32) (ctr : Vec F S1x16x16x256 .f32) (w : Vec F S2304x512 .bf16)
    (b : Vec F S1x512 .f32) (wh : Vec F S512x18 .bf16) (bh : Vec F S1x18 .f32) : FVec F (Mat 256 18) .f32 :=
  outs geo4 (top4 i) (bot4 i) prev next ctr w b wh bh

theorem cc4_eq (i : grid4.Coords) a2 h2 a3 h3 a4 h4 a5 h5 a6 h6 a7 h7 a8 h8 b0 hb0 b1 hb1 b2 hb2 a9 h9 a10 h10 a11 h11 :
    cc4__rpn_level_kernel (F := F) i a2 h2 a3 h3 a4 h4 a5 h5 a6 h6 a7 h7 a8 h8 b0 hb0 b1 hb1 b2 hb2 a9 h9 a10 h10 a11 h11
      = level (Halo 16) (Ctr 16 16) 768 256 ![0, 0, 0, 0] ![0, 0, 0, 0] a2 a3 a4 a5 a6 a7 a8 a9 a10 a11
        inb_S1x1x16x256_S1x1x16x256_0_0_0_0 inb_S1x16x16x256_S1x16x16x256_0_0_0_0 inb_S2304x512_S2304x512_0_0 inb_S512x18_S512x18_0_0 inb_S1x512_S1x512_0_0 inb_S1x18_S1x18_0_0
        h_S1x1x16x256 h_S1x16x16x256 h_S2304x512 h_S512x18 h_S1x512 h_S1x18
        inb_S1x768x2_S1x256x2_0_0_0_s_1_3_1 inb_S1x768x2_S1x256x2_0_1_0_s_1_3_1 inb_S1x768x2_S1x256x2_0_2_0_s_1_3_1
        inb_S1x768x4_S1x256x4_0_0_0_s_1_3_1 inb_S1x768x4_S1x256x4_0_1_0_s_1_3_1 inb_S1x768x4_S1x256x4_0_2_0_s_1_3_1
        spos_1_3_1 h_S1x256x2 h_S1x256x4
        (fun p n c w b wh bh => lane2 geo4 ![0, 0] geo4.l0 (logits6 geo4 (outs4 i p n c w b wh bh)))
        (fun p n c w b wh bh => lane2 geo4 ![0, 2] geo4.l1 (logits6 geo4 (outs4 i p n c w b wh bh)))
        (fun p n c w b wh bh => lane2 geo4 ![0, 4] geo4.l2 (logits6 geo4 (outs4 i p n c w b wh bh)))
        (fun p n c w b wh bh => lane2 geo4 ![0, 0] geo4.l0 (pairs geo4 (logits6 geo4 (outs4 i p n c w b wh bh))))
        (fun p n c w b wh bh => lane2 geo4 ![0, 2] geo4.l1 (pairs geo4 (logits6 geo4 (outs4 i p n c w b wh bh))))
        (fun p n c w b wh bh => lane2 geo4 ![0, 4] geo4.l2 (pairs geo4 (logits6 geo4 (outs4 i p n c w b wh bh))))
        (fun p n c w b wh bh => lane4 geo4 ![0, 0] geo4.d0 (deltas12 geo4 (outs4 i p n c w b wh bh)))
        (fun p n c w b wh bh => lane4 geo4 ![0, 4] geo4.d1 (deltas12 geo4 (outs4 i p n c w b wh bh)))
        (fun p n c w b wh bh => lane4 geo4 ![0, 8] geo4.d2 (deltas12 geo4 (outs4 i p n c w b wh bh))) := by
  rw [cc4__rpn_level_kernel_eq_skeleton]; unfold cc4__rpn_level_kernel_skel
  rw [k4_part1_eq_skeleton, k4_part2_eq_skeleton]
  rfl

end Cert.KernelIdeal.Gen

end
-- ==== Proof.KI.Levels.lean ====
/- The launches of the five levels at the contents a launch finds: its blocks, what it leaves, its body. -/
module

public import proofs.«01_k».proof.Proof.KI.Bodies
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rpn

variable {F : FTy → Type} [FloatOps F]

/-- The contents a launch finds. -/
abbrev Held (F : FTy → Type) : Type := (c : Dev nD) → (b : Ref sig .tc) → Buf (Elt F) ((c : Thread nD τ).loc b)

variable (V : Held F)

/-! ## Level 0 -/

/-- Window w's block at point t. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The eighteen outputs of each position of the point's tile. -/
abbrev res0 (c : Dev nD) (t : Fin cfg0.N) : FVec F (Mat 2048 18) .f32 :=
  outs0 (grid0.coords t) (blk0 V c 0 t) (blk0 V c 2 t) (blk0 V c 1 t) (blk0 V c 3 t) (blk0 V c 5 t) (blk0 V c 4 t) (blk0 V c 6 t)

/-- The launch's data: each array as found, each input's buffer kept at its block, each output's left woven. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => weave6 geo0 rfl (logits6 geo0 (res0 V c t))
    | ⟨8, _⟩ => weave6 geo0 rfl (pairs geo0 (logits6 geo0 (res0 V c t)))
    | ⟨9, _⟩ => weave12 geo0 rfl (deltas12 geo0 (res0 V c t))
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl

theorem before0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl

theorem before0_2 (c : Dev nD) (t : Fin cfg0.N) (d) : (dat0 V c).before 2 t d = blk0 V c 2 t :=
  ((dat0 V c).before_in_eq_fetched 2 rfl (fun _ => rfl) (fun _ _ _ => rfl) (fun _ => rfl) t d).trans rfl

theorem before0_3 (c : Dev nD) (t : Fin cfg0.N) (d) : (dat0 V c).before 3 t d = blk0 V c 3 t :=
  ((dat0 V c).before_in_eq_fetched 3 rfl (fun _ => rfl) (fun _ _ _ => rfl) (fun _ => rfl) t d).trans rfl

theorem before0_4 (c : Dev nD) (t : Fin cfg0.N) (d) : (dat0 V c).before 4 t d = blk0 V c 4 t :=
  ((dat0 V c).before_in_eq_fetched 4 rfl (fun _ => rfl) (fun _ _ _ => rfl) (fun _ => rfl) t d).trans rfl

theorem before0_5 (c : Dev nD) (t : Fin cfg0.N) (d) : (dat0 V c).before 5 t d = blk0 V c 5 t :=
  ((dat0 V c).before_in_eq_fetched 5 rfl (fun _ => rfl) (fun _ _ _ => rfl) (fun _ => rfl) t d).trans rfl

theorem before0_6 (c : Dev nD) (t : Fin cfg0.N) (d) : (dat0 V c).before 6 t d = blk0 V c 6 t :=
  ((dat0 V c).before_in_eq_fetched 6 rfl (fun _ => rfl) (fun _ _ _ => rfl) (fun _ => rfl) t d).trans rfl

theorem body_ob0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  unfold bodyAt0
  rw [cc0_eq]
  exact triple_restated (level_body _ c Set.univ _ _ _ _ _ _ _ _ _ _ _ _ _ _ _ _ _ _ _ rfl zero4 zero4 _ _
    (before0_0 V c t) (before0_1 V c t) (before0_2 V c t) (before0_3 V c t) (before0_4 V c t) (before0_5 V c t)
    (before0_6 V c t)) rfl .rfl fun _ => .rfl

/-! ## Level 1 -/

/-- Window w's block at point t. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eighteen outputs of each position of the point's tile. -/
abbrev res1 (c : Dev nD) (t : Fin cfg1.N) : FVec F (Mat 2048 18) .f32 :=
  outs1 (grid1.coords t) (blk1 V c 0 t) (blk1 V c 2 t) (blk1 V c 1 t) (blk1 V c 3 t) (blk1 V c 5 t) (blk1 V c 4 t) (blk1 V c 6 t)

/-- The launch's data: each array as found, each input's buffer kept at its block, each output's left woven. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => weave6 geo1 rfl (logits6 geo1 (res1 V c t))
    | ⟨8, _⟩ => weave6 geo1 rfl (pairs geo1 (logits6 geo1 (res1 V c t)))
    | ⟨9, _⟩ => weave12 geo1 rfl (deltas12 geo1 (res1 V c t))
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl

theorem before1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl

theorem before1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl

theorem before1_3 (c : Dev nD) (t : Fin cfg1.N) (d) : (dat1 V c).before 3 t d = blk1 V c 3 t :=
  ((dat1 V c).before_in_eq_fetched 3 rfl (fun _ => rfl) (fun _ _ _ => rfl) (fun _ => rfl) t d).trans rfl

theorem before1_4 (c : Dev nD) (t : Fin cfg1.N) (d) : (dat1 V c).before 4 t d = blk1 V c 4 t :=
  ((dat1 V c).before_in_eq_fetched 4 rfl (fun _ => rfl) (fun _ _ _ => rfl) (fun _ => rfl) t d).trans rfl

theorem before1_5 (c : Dev nD) (t : Fin cfg1.N) (d) : (dat1 V c).before 5 t d = blk1 V c 5 t :=
  ((dat1 V c).before_in_eq_fetched 5 rfl (fun _ => rfl) (fun _ _ _ => rfl) (fun _ => rfl) t d).trans rfl

theorem before1_6 (c : Dev nD) (t : Fin cfg1.N) (d) : (dat1 V c).before 6 t d = blk1 V c 6 t :=
  ((dat1 V c).before_in_eq_fetched 6 rfl (fun _ => rfl) (fun _ _ _ => rfl) (fun _ => rfl) t d).trans rfl

theorem body_ob1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  unfold bodyAt1
  rw [cc1_eq]
  exact triple_restated (level_body _ c Set.univ _ _ _ _ _ _ _ _ _ _ _ _ _ _ _ _ _ _ _ rfl zero4 zero4 _ _
    (before1_0 V c t) (before1_1 V c t) (before1_2 V c t) (before1_3 V c t) (before1_4 V c t) (before1_5 V c t)
    (before1_6 V c t)) rfl .rfl fun _ => .rfl

/-! ## Level 2 -/

/-- Window w's block at point t. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The eighteen outputs of each position of the point's tile. -/
abbrev res2 (c : Dev nD) (t : Fin cfg2.N) : FVec F (Mat 2048 18) .f32 :=
  outs2 (grid2.coords t) (blk2 V c 0 t) (blk2 V c 2 t) (blk2 V c 1 t) (blk2 V c 3 t) (blk2 V c 5 t) (blk2 V c 4 t) (blk2 V c 6 t)

/-- The launch's data: each array as found, each input's buffer kept at its block, each output's left woven. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => weave6 geo2 rfl (logits6 geo2 (res2 V c t))
    | ⟨8, _⟩ => weave6 geo2 rfl (pairs geo2 (logits6 geo2 (res2 V c t)))
    | ⟨9, _⟩ => weave12 geo2 rfl (deltas12 geo2 (res2 V c t))
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem before2_0 (c : Dev nD) (t : Fin cfg2.N) (d) : (dat2 V c).before 0 t d = blk2 V c 0 t :=
  ((dat2 V c).before_in_eq_fetched 0 rfl (fun _ => rfl) (fun _ _ _ => rfl) (fun _ => rfl) t d).trans rfl

theorem before2_1 (c : Dev nD) (t : Fin cfg2.N) (d) : (dat2 V c).before 1 t d = blk2 V c 1 t :=
  ((dat2 V c).before_in_eq_fetched 1 rfl (fun _ => rfl) (fun _ _ _ => rfl) (fun _ => rfl) t d).trans rfl

theorem before2_2 (c : Dev nD) (t : Fin cfg2.N) (d) : (dat2 V c).before 2 t d = blk2 V c 2 t :=
  ((dat2 V c).before_in_eq_fetched 2 rfl (fun _ => rfl) (fun _ _ _ => rfl) (fun _ => rfl) t d).trans rfl

theorem before2_3 (c : Dev nD) (t : Fin cfg2.N) (d) : (dat2 V c).before 3 t d = blk2 V c 3 t :=
  ((dat2 V c).before_in_eq_fetched 3 rfl (fun _ => rfl) (fun _ _ _ => rfl) (fun _ => rfl) t d).trans rfl

theorem before2_4 (c : Dev nD) (t : Fin cfg2.N) (d) : (dat2 V c).before 4 t d = blk2 V c 4 t :=
  ((dat2 V c).before_in_eq_fetched 4 rfl (fun _ => rfl) (fun _ _ _ => rfl) (fun _ => rfl) t d).trans rfl

theorem before2_5 (c : Dev nD) (t : Fin cfg2.N) (d) : (dat2 V c).before 5 t d = blk2 V c 5 t :=
  ((dat2 V c).before_in_eq_fetched 5 rfl (fun _ => rfl) (fun _ _ _ => rfl) (fun _ => rfl) t d).trans rfl

theorem before2_6 (c : Dev nD) (t : Fin cfg2.N) (d) : (dat2 V c).before 6 t d = blk2 V c 6 t :=
  ((dat2 V c).before_in_eq_fetched 6 rfl (fun _ => rfl) (fun _ _ _ => rfl) (fun _ => rfl) t d).trans rfl

theorem body_ob2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  unfold bodyAt2
  rw [cc2_eq]
  exact triple_restated (level_body _ c Set.univ _ _ _ _ _ _ _ _ _ _ _ _ _ _ _ _ _ _ _ rfl zero4 zero4 _ _
    (before2_0 V c t) (before2_1 V c t) (before2_2 V c t) (before2_3 V c t) (before2_4 V c t) (before2_5 V c t)
    (before2_6 V c t)) rfl .rfl fun _ => .rfl

/-! ## Level 3 -/

/-- Window w's block at point t. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The eighteen outputs of each position of the point's tile. -/
abbrev res3 (c : Dev nD) (t : Fin cfg3.N) : FVec F (Mat 1024 18) .f32 :=
  outs3 (grid3.coords t) (blk3 V c 0 t) (blk3 V c 2 t) (blk3 V c 1 t) (blk3 V c 3 t) (blk3 V c 5 t) (blk3 V c 4 t) (blk3 V c 6 t)

/-- The launch's data: each array as found, each input's buffer kept at its block, each output's left woven. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => weave6 geo3 rfl (logits6 geo3 (res3 V c t))
    | ⟨8, _⟩ => weave6 geo3 rfl (pairs geo3 (logits6 geo3 (res3 V c t)))
    | ⟨9, _⟩ => weave12 geo3 rfl (deltas12 geo3 (res3 V c t))
  Φ _ := Pipeline.ΦA spec3 c
  q w := Pipeline.shareOf spec3 w
  owed _ := 0

theorem A_eq3 (c : Dev nD) (w : Fin cfg3.W) : (dat3 V c).A w = V c (Pipeline.arrRef spec3 w) := by
  dsimp only [dat3]

theorem before3_0 (c : Dev nD) (t : Fin cfg3.N) (d) : (dat3 V c).before 0 t d = blk3 V c 0 t :=
  ((dat3 V c).before_in_eq_fetched 0 rfl (fun _ => rfl) (fun _ _ _ => rfl) (fun _ => rfl) t d).trans rfl

theorem before3_1 (c : Dev nD) (t : Fin cfg3.N) (d) : (dat3 V c).before 1 t d = blk3 V c 1 t :=
  ((dat3 V c).before_in_eq_fetched 1 rfl (fun _ => rfl) (fun _ _ _ => rfl) (fun _ => rfl) t d).trans rfl

theorem before3_2 (c : Dev nD) (t : Fin cfg3.N) (d) : (dat3 V c).before 2 t d = blk3 V c 2 t :=
  ((dat3 V c).before_in_eq_fetched 2 rfl (fun _ => rfl) (fun _ _ _ => rfl) (fun _ => rfl) t d).trans rfl

theorem before3_3 (c : Dev nD) (t : Fin cfg3.N) (d) : (dat3 V c).before 3 t d = blk3 V c 3 t :=
  ((dat3 V c).before_in_eq_fetched 3 rfl (fun _ => rfl) (fun _ _ _ => rfl) (fun _ => rfl) t d).trans rfl

theorem before3_4 (c : Dev nD) (t : Fin cfg3.N) (d) : (dat3 V c).before 4 t d = blk3 V c 4 t :=
  ((dat3 V c).before_in_eq_fetched 4 rfl (fun _ => rfl) (fun _ _ _ => rfl) (fun _ => rfl) t d).trans rfl

theorem before3_5 (c : Dev nD) (t : Fin cfg3.N) (d) : (dat3 V c).before 5 t d = blk3 V c 5 t :=
  ((dat3 V c).before_in_eq_fetched 5 rfl (fun _ => rfl) (fun _ _ _ => rfl) (fun _ => rfl) t d).trans rfl

theorem before3_6 (c : Dev nD) (t : Fin cfg3.N) (d) : (dat3 V c).before 6 t d = blk3 V c 6 t :=
  ((dat3 V c).before_in_eq_fetched 6 rfl (fun _ => rfl) (fun _ _ _ => rfl) (fun _ => rfl) t d).trans rfl

theorem body_ob3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by
    unfold defs₀; rw [Defs.onTc_tc]]
  unfold bodyAt3
  rw [cc3_eq]
  exact triple_restated (level_body _ c Set.univ _ _ _ _ _ _ _ _ _ _ _ _ _ _ _ _ _ _ _ rfl zero4 zero4 _ _
    (before3_0 V c t) (before3_1 V c t) (before3_2 V c t) (before3_3 V c t) (before3_4 V c t) (before3_5 V c t)
    (before3_6 V c t)) rfl .rfl fun _ => .rfl

/-! ## Level 4 -/

/-- Window w's block at point t. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The eighteen outputs of each position of the point's tile. -/
abbrev res4 (c : Dev nD) (t : Fin cfg4.N) : FVec F (Mat 256 18) .f32 :=
  outs4 (grid4.coords t) (blk4 V c 0 t) (blk4 V c 2 t) (blk4 V c 1 t) (blk4 V c 3 t) (blk4 V c 5 t) (blk4 V c 4 t) (blk4 V c 6 t)

/-- The launch's data: each array as found, each input's buffer kept at its block, each output's left woven. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => blk4 V c 6 t
    | ⟨7, _⟩ => weave6 geo4 rfl (logits6 geo4 (res4 V c t))
    | ⟨8, _⟩ => weave6 geo4 rfl (pairs geo4 (logits6 geo4 (res4 V c t)))
    | ⟨9, _⟩ => weave12 geo4 rfl (deltas12 geo4 (res4 V c t))
  Φ _ := Pipeline.ΦA spec4 c
  q w := Pipeline.shareOf spec4 w
  owed _ := 0

theorem A_eq4 (c : Dev nD) (w : Fin cfg4.W) : (dat4 V c).A w = V c (Pipeline.arrRef spec4 w) := by
  dsimp only [dat4]

theorem before4_0 (c : Dev nD) (t : Fin cfg4.N) (d) : (dat4 V c).before 0 t d = blk4 V c 0 t :=
  ((dat4 V c).before_in_eq_fetched 0 rfl (fun _ => rfl) (fun _ _ _ => rfl) (fun _ => rfl) t d).trans rfl

theorem before4_1 (c : Dev nD) (t : Fin cfg4.N) (d) : (dat4 V c).before 1 t d = blk4 V c 1 t :=
  ((dat4 V c).before_in_eq_fetched 1 rfl (fun _ => rfl) (fun _ _ _ => rfl) (fun _ => rfl) t d).trans rfl

theorem before4_2 (c : Dev nD) (t : Fin cfg4.N) (d) : (dat4 V c).before 2 t d = blk4 V c 2 t :=
  ((dat4 V c).before_in_eq_fetched 2 rfl (fun _ => rfl) (fun _ _ _ => rfl) (fun _ => rfl) t d).trans rfl

theorem before4_3 (c : Dev nD) (t : Fin cfg4.N) (d) : (dat4 V c).before 3 t d = blk4 V c 3 t :=
  ((dat4 V c).before_in_eq_fetched 3 rfl (fun _ => rfl) (fun _ _ _ => rfl) (fun _ => rfl) t d).trans rfl

theorem before4_4 (c : Dev nD) (t : Fin cfg4.N) (d) : (dat4 V c).before 4 t d = blk4 V c 4 t :=
  ((dat4 V c).before_in_eq_fetched 4 rfl (fun _ => rfl) (fun _ _ _ => rfl) (fun _ => rfl) t d).trans rfl

theorem before4_5 (c : Dev nD) (t : Fin cfg4.N) (d) : (dat4 V c).before 5 t d = blk4 V c 5 t :=
  ((dat4 V c).before_in_eq_fetched 5 rfl (fun _ => rfl) (fun _ _ _ => rfl) (fun _ => rfl) t d).trans rfl

theorem before4_6 (c : Dev nD) (t : Fin cfg4.N) (d) : (dat4 V c).before 6 t d = blk4 V c 6 t :=
  ((dat4 V c).before_in_eq_fetched 6 rfl (fun _ => rfl) (fun _ _ _ => rfl) (fun _ => rfl) t d).trans rfl

theorem body_ob4 (c : Dev nD) : BodyObligation (dat4 (F := F) V c) (defs₀ (F := F)) Variants.none () Set.univ := fun t => by
  rw [bigSep_W4, bigSep_W4, show defs₀ (F := F) .tc cfg4.body (cfg4.bodyArgs t (cfg4.slots t)) = bodyAt4 t from by
    unfold defs₀; rw [Defs.onTc_tc]]
  unfold bodyAt4
  rw [cc4_eq]
  exact triple_restated (level_body _ c Set.univ _ _ _ _ _ _ _ _ _ _ _ _ _ _ _ _ _ _ _ rfl zero4 zero4 _ _
    (before4_0 V c t) (before4_1 V c t) (before4_2 V c t) (before4_3 V c t) (before4_4 V c t) (before4_5 V c t)
    (before4_6 V c t)) rfl .rfl fun _ => .rfl

end Cert.KernelIdeal.Gen

end
-- ==== Proof.KI.Run.lean ====
/- The whole program: what every buffer holds between its stretches and launches, and the run. -/
module

public import proofs.«01_k».proof.Proof.KI.Levels

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rpn

variable {F : FTy → Type} [FloatOps F]

local notation "𝕄" => MT nD τ sig Unit (Elt F) ℕ (UR sig nD τ) ℕ

/-! ## What a launch leaves -/

/-- What launch `p`, entered from `W`, leaves when its data are `D`. -/
def leave (p : Fin 5) (W : Dev nD → Valuation τ sig (Elt F))
    (D : (c : Dev nD) → Dat τ (Elt F) Unit ℕ (UR sig nD τ) ℕ (cfgs p) c) (c : Dev nD) : Valuation τ sig (Elt F) :=
  Pipeline.withArrays (cfgs p).spec c (W c) fun w => (D c).arrAt w (cfgs p).N

section
variable {p : Fin 5} {W : Dev nD → Valuation τ sig (Elt F)} {D : (c : Dev nD) → Dat τ (Elt F) Unit ℕ (UR sig nD τ) ℕ (cfgs p) c}
  (sh : Pipeline.SharedIn (cfgs p).spec) (hA : ∀ c w, (D c).A w = W c (Proc.devRef .tc (Pipeline.arrRef (cfgs p).spec w)))

include sh hA in
theorem leave_arr (c : Dev nD) (w : Fin (cfgs p).W) :
    leave p W D c (Proc.devRef .tc (Pipeline.arrRef (cfgs p).spec w)) = (D c).arrAt w (cfgs p).N :=
  (D c).withArrays_arrAt sh _ (hA c) w

theorem leave_else (c : Dev nD) (b : Ref sig .tc) (hb : ∀ w, Pipeline.arrRef (cfgs p).spec w ≠ b) :
    leave p W D c (Proc.devRef .tc b) = W c (Proc.devRef .tc b) := Pipeline.withArrays_of_ne _ c _ _ b hb

include sh hA in
/-- Whatever no output window is on is as it was. -/
theorem leave_kept (c : Dev nD) (b : Ref sig .tc)
    (h : ∀ w, Pipeline.arrRef (cfgs p).spec w = b → ((cfgs p).win w).isOut = false) :
    leave p W D c (Proc.devRef .tc b) = W c (Proc.devRef .tc b) := by
  by_cases hw : ∃ w, Pipeline.arrRef (cfgs p).spec w = b
  · obtain ⟨w, rfl⟩ := hw
    exact (leave_arr sh hA c w).trans (((D c).arrAt_in w (h w rfl) _).trans (hA c w))
  · exact leave_else c b fun w e => hw ⟨w, e⟩
end

/-! ## The contents in order -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : Held F := fun c b => W1 m ρ c b
abbrev W2 : Dev nD → Valuation τ sig (Elt F) := leave 0 (W1 m ρ) (dat0 (V1 m ρ))
abbrev W3 : Dev nD → Valuation τ sig (Elt F) := fun c => StableHlo.after hostOps1 (W2 m ρ c)
abbrev V3 : Held F := fun c b => W3 m ρ c b
abbrev W4 : Dev nD → Valuation τ sig (Elt F) := leave 1 (W3 m ρ) (dat1 (V3 m ρ))
abbrev W5 : Dev nD → Valuation τ sig (Elt F) := fun c => StableHlo.after hostOps2 (W4 m ρ c)
abbrev V5 : Held F := fun c b => W5 m ρ c b
abbrev W6 : Dev nD → Valuation τ sig (Elt F) := leave 2 (W5 m ρ) (dat2 (V5 m ρ))
abbrev W7 : Dev nD → Valuation τ sig (Elt F) := fun c => StableHlo.after hostOps3 (W6 m ρ c)
abbrev V7 : Held F := fun c b => W7 m ρ c b
abbrev W8 : Dev nD → Valuation τ sig (Elt F) := leave 3 (W7 m ρ) (dat3 (V7 m ρ))
abbrev W9 : Dev nD → Valuation τ sig (Elt F) := fun c => StableHlo.after hostOps4 (W8 m ρ c)
abbrev V9 : Held F := fun c b => W9 m ρ c b
abbrev W10 : Dev nD → Valuation τ sig (Elt F) := leave 4 (W9 m ρ) (dat4 (V9 m ρ))

/-! The stretches: what each writes; none makes a buffer. -/

abbrev writes0 : List (Ref sig .tc) := [main_v0, main_v1, main_v2, main_v3, main_v4, main_v5, main_v6, main_v7, main_v8]
abbrev writes1 : List (Ref sig .tc) := [main_v10_0, main_v10_1, main_v10_2]
abbrev writes2 : List (Ref sig .tc) := [main_v11_0, main_v11_1, main_v11_2]
abbrev writes3 : List (Ref sig .tc) := [main_v12_0, main_v12_1, main_v12_2]
abbrev writes4 : List (Ref sig .tc) := [main_v13_0, main_v13_1, main_v13_2]

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor

theorem W1_of (c : Dev nD) (r : Ref sig .tc) (h : r ∉ writes0) : W1 m ρ c (Proc.devRef .tc r) = W0 m ρ c (Proc.devRef .tc r) :=
  StableHlo.after_of_writes_sub hostOps0 _ (StableHlo.forall_writes_sub_of_map rfl) h
theorem W3_of (c : Dev nD) (r : Ref sig .tc) (h : r ∉ writes1) : W3 m ρ c (Proc.devRef .tc r) = W2 m ρ c (Proc.devRef .tc r) :=
  StableHlo.after_of_writes_sub hostOps1 _ (StableHlo.forall_writes_sub_of_map rfl) h
theorem W5_of (c : Dev nD) (r : Ref sig .tc) (h : r ∉ writes2) : W5 m ρ c (Proc.devRef .tc r) = W4 m ρ c (Proc.devRef .tc r) :=
  StableHlo.after_of_writes_sub hostOps2 _ (StableHlo.forall_writes_sub_of_map rfl) h
theorem W7_of (c : Dev nD) (r : Ref sig .tc) (h : r ∉ writes3) : W7 m ρ c (Proc.devRef .tc r) = W6 m ρ c (Proc.devRef .tc r) :=
  StableHlo.after_of_writes_sub hostOps3 _ (StableHlo.forall_writes_sub_of_map rfl) h
theorem W9_of (c : Dev nD) (r : Ref sig .tc) (h : r ∉ writes4) : W9 m ρ c (Proc.devRef .tc r) = W8 m ρ c (Proc.devRef .tc r) :=
  StableHlo.after_of_writes_sub hostOps4 _ (StableHlo.forall_writes_sub_of_map rfl) h

/-- A buffer no launch writes and no later stretch writes is at the end, and at each launch, as after the first stretch. -/
def Kept (r : Ref sig .tc) : Prop :=
  (r ∉ writes1 ∧ r ∉ writes2 ∧ r ∉ writes3 ∧ r ∉ writes4)
  ∧ (∀ w, Pipeline.arrRef spec0 w = r → (cfg0.win w).isOut = false) ∧ (∀ w, Pipeline.arrRef spec1 w = r → (cfg1.win w).isOut = false)
  ∧ (∀ w, Pipeline.arrRef spec2 w = r → (cfg2.win w).isOut = false) ∧ (∀ w, Pipeline.arrRef spec3 w = r → (cfg3.win w).isOut = false)
  ∧ (∀ w, Pipeline.arrRef spec4 w = r → (cfg4.win w).isOut = false)

theorem W3_kept (c : Dev nD) (r : Ref sig .tc) (h : Kept r) : W3 m ρ c (Proc.devRef .tc r) = W1 m ρ c (Proc.devRef .tc r) :=
  (W3_of m ρ c r h.1.1).trans (leave_kept launch₀0.sharedIn (A_eq0 (V1 m ρ)) c r h.2.1)
theorem W5_kept (c : Dev nD) (r : Ref sig .tc) (h : Kept r) : W5 m ρ c (Proc.devRef .tc r) = W1 m ρ c (Proc.devRef .tc r) :=
  (W5_of m ρ c r h.1.2.1).trans ((leave_kept launch₀1.sharedIn (A_eq1 (V3 m ρ)) c r h.2.2.1).trans (W3_kept m ρ c r h))
theorem W7_kept (c : Dev nD) (r : Ref sig .tc) (h : Kept r) : W7 m ρ c (Proc.devRef .tc r) = W1 m ρ c (Proc.devRef .tc r) :=
  (W7_of m ρ c r h.1.2.2.1).trans ((leave_kept launch₀2.sharedIn (A_eq2 (V5 m ρ)) c r h.2.2.2.1).trans (W5_kept m ρ c r h))
theorem W9_kept (c : Dev nD) (r : Ref sig .tc) (h : Kept r) : W9 m ρ c (Proc.devRef .tc r) = W1 m ρ c (Proc.devRef .tc r) :=
  (W9_of m ρ c r h.1.2.2.2).trans ((leave_kept launch₀3.sharedIn (A_eq3 (V7 m ρ)) c r h.2.2.2.2.1).trans (W7_kept m ρ c r h))
theorem W10_kept (c : Dev nD) (r : Ref sig .tc) (h : Kept r) : W10 m ρ c (Proc.devRef .tc r) = W1 m ρ c (Proc.devRef .tc r) :=
  (leave_kept launch₀4.sharedIn (A_eq4 (V9 m ρ)) c r h.2.2.2.2.2).trans (W9_kept m ρ c r h)

/-- The program's arguments. -/
abbrev argRefs : List (Ref sig .tc) :=
  [main_arg0, main_arg1, main_arg2, main_arg3, main_arg4, main_arg5, main_arg6, main_arg7, main_arg8, main_arg9, main_arg10]

instance (r : Ref sig .tc) : Decidable (Kept r) := by unfold Kept; infer_instance

theorem args_kept : ∀ a ∈ argRefs, a ∉ writes0 ∧ Kept a := ListAll.forall_mem_of_all_decide (by decide +kernel)

theorem W10_args (c : Dev nD) (a : Ref sig .tc) (h : a ∈ argRefs) : W10 m ρ c (Proc.devRef .tc a) = m ((c : Thread nD τ).loc a) :=
  (W10_kept m ρ c a (args_kept a h).2).trans (W1_of m ρ c a (args_kept a h).1)

/-! ## The launches and stretches as segments -/

abbrev adm : (p : Fin 5) → (pcfgs (F := F) p).Adm := fun p => (cfgs p).toPCfg_adm

/-- Every launch's data at what it finds. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c

abbrev L : GSem nD τ sig → Finset Unit := fun _ => ∅
abbrev lv : GSem nD τ sig → Unit → ℕ := fun _ _ => 0

/-- What rides beside the buffers: the generator register, and no debt. -/
abbrev R (c : Dev nD) : sProp 𝕄 := iprop((∃ r, prngReg c r) ∗ ∃ W, owes (c : Thread nD τ) (0 : CellTallies nD τ sig Unit) W)

/-- All buffers outside the launches, at `W`. -/
abbrev At (W : Dev nD → Valuation τ sig (Elt F)) (c : Dev nD) : sProp 𝕄 :=
  StableHlo.held (c : Thread nD τ) (Pipeline.ucRefs τ sig) (W c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Launch `p` as a segment, entered from `W`: it owes nothing, has no semaphore of its own, and its invariant is the
    generator register and the buffers no window stages. -/
def launchSeg (p : Fin 5) (lf : Pipeline.LaunchFacts₀ (nD := nD) (τ := τ) cfgs p) (W : Dev nD → Valuation τ sig (Elt F))
    (hA : ∀ c w, (pdats m ρ p c).A w = W c (Proc.devRef .tc (Pipeline.arrRef (cfgs p).spec w)))
    (ob : ∀ c, BodyObligation (pdats m ρ p c) (defs₀ (F := F)) Variants.none () Set.univ)
    (hΦ : ∀ c t, (pdats m ρ p c).Φ t = Pipeline.ΦA (cfgs p).spec c)
    (hq : ∀ c w, (pdats m ρ p c).q w = Pipeline.shareOf (cfgs p).spec w)
    (hr : ∀ c x, x ∈ (pdats m ρ p c).recorded 0) (ho : ∀ c t, (pdats m ρ p c).owed t = 0) :
    Pipeline.RegionSeg (pcfgs (F := F)) adm (pdats m ρ) () defs₀ Variants.none L lv p where
  win := lf.win
  block_pos := lf.block_pos
  stage_whole := lf.stage_whole
  K := PEmpty
  osem k := k.elim
  ho := Pipeline.OwnSemFacts.none _
  hbody c := (ob c).loose
  hwaits := Pipeline.hwaits_of_owed_zero _ _ _ _ L lv p ho
  pre c := iprop(At W c ∗ R c)
  post c := iprop(At (leave p W (pdats m ρ p)) c ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs_shared (p := p) (pcfgs (F := F)) adm (pdats m ρ) lf.win lf.sharedIn lf.arr_whole c
      (fun w _ => hq c w) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%S, HO⟩; iexists S; isplitr; · ipureintro; exact fun _ _ => Or.inl (hr c _)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays_shared (p := p) (pcfgs (F := F)) adm (Ix := Unit) (Name := ℕ) (U := UR sig nD τ) (Lvl := ℕ)
      lf.win lf.sharedIn lf.arr_whole c (pdats m ρ) (fun w _ => hq c w)
      (fun b => W c b) (fun b => leave p W (pdats m ρ p) c b) ((pdats m ρ p c).arrAt · (cfgs p).N)
      (fun w => (leave_arr lf.sharedIn hA c w).symm)
      (fun b hb => leave_else c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%S, -, HO⟩; iexists S; iexact HO

/-- The ten segments in order. -/
abbrev segs : List (Pipeline.Seg (pcfgs (F := F)) adm (pdats m ρ) () defs₀ Variants.none L lv) :=
  [ .host (hseg hostOps0 hostOps0_sub fresh0 (W0 m ρ)),
    .region (launchSeg m ρ 0 launch₀0 (W1 m ρ) (A_eq0 (V1 m ρ)) (body_ob0 (V1 m ρ)) (fun _ _ => rfl) (fun _ _ => rfl) (fun _ _ => trivial) fun _ _ => rfl),
    .host (hseg hostOps1 hostOps1_sub fresh1 (W2 m ρ)),
    .region (launchSeg m ρ 1 launch₀1 (W3 m ρ) (A_eq1 (V3 m ρ)) (body_ob1 (V3 m ρ)) (fun _ _ => rfl) (fun _ _ => rfl) (fun _ _ => trivial) fun _ _ => rfl),
    .host (hseg hostOps2 hostOps2_sub fresh2 (W4 m ρ)),
    .region (launchSeg m ρ 2 launch₀2 (W5 m ρ) (A_eq2 (V5 m ρ)) (body_ob2 (V5 m ρ)) (fun _ _ => rfl) (fun _ _ => rfl) (fun _ _ => trivial) fun _ _ => rfl),
    .host (hseg hostOps3 hostOps3_sub fresh3 (W6 m ρ)),
    .region (launchSeg m ρ 3 launch₀3 (W7 m ρ) (A_eq3 (V7 m ρ)) (body_ob3 (V7 m ρ)) (fun _ _ => rfl) (fun _ _ => rfl) (fun _ _ => trivial) fun _ _ => rfl),
    .host (hseg hostOps4 hostOps4_sub fresh4 (W8 m ρ)),
    .region (launchSeg m ρ 4 launch₀4 (W9 m ρ) (A_eq4 (V9 m ρ)) (body_ob4 (V9 m ρ)) (fun _ _ => rfl) (fun _ _ => rfl) (fun _ _ => trivial) fun _ _ => rfl) ]

theorem main_run (c : Dev nD) : main (F := F) c = Pipeline.Seg.run (segs m ρ) := (main_chain c).trans (by chain_rfl)

theorem no_unscoped : ∀ sm : SemLoc sig, sm.isScoped .tc = true := by decide

theorem regroup (c : Dev nD) : iprop(At (W10 m ρ) c ∗ R c)
    ⊢ iprop((At (W10 m ρ) c ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- The run: every buffer outside the launches ends as `W10`, every semaphore at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W10 m ρ c b) ∧ r.2.sem = fun _ => 0) :=
  Pipeline.θ_run_regions_kit_sems (pcfgs (F := F)) adm (pdats m ρ) () cellOf_inj emb₁ defs₀ Variants.none L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(At (W0 m ρ) c ∗ R c)) (Tₙ := fun c => iprop(At (W10 m ρ) c ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun c => regroup m ρ c⟩)
    (hinit := by
      refine Pipeline.initEach L lv fun c => ?_
      rw [show unscopedBufs c (fun b => m ((c : Thread nD τ).loc b)) = At (W0 m ρ) c from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold At StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem args_uc : ∀ a ∈ argRefs, ¬ (Proc.devRef .tc a : DevRef τ sig).isScoped := ListAll.forall_mem_of_all_decide (by decide +kernel)

/-- What the run leaves in the arguments and the results. -/
theorem run_ends : θ_run defs (onTc (τ := τ) (main (F := F))) ⟨m, fun _ => 0, ρ⟩ (fun r =>
    (∀ c : Dev nD, (∀ a ∈ argRefs, r.2.mem ((c.tc : Thread nD τ).loc a) = m ((c.tc : Thread nD τ).loc a))
      ∧ r.2.mem ((c.tc : Thread nD τ).loc main_v13_0) = W10 m ρ c (Proc.devRef .tc main_v13_0)
      ∧ r.2.mem ((c.tc : Thread nD τ).loc main_v13_1) = W10 m ρ c (Proc.devRef .tc main_v13_1)
      ∧ r.2.mem ((c.tc : Thread nD τ).loc main_v13_2) = W10 m ρ c (Proc.devRef .tc main_v13_2)) ∧ r.2.sem = fun _ => 0) :=
  (θ_run defs _ _).mono (fun _ h => ⟨fun c => ⟨fun a ha => (h.1 c _ (mem_uc a (args_uc a ha))).trans (W10_args m ρ c a ha),
    h.1 c _ (mem_uc main_v13_0 (by decide)), h.1 c _ (mem_uc main_v13_1 (by decide)), h.1 c _ (mem_uc main_v13_2 (by decide))⟩, h.2⟩)
    (run m ρ)

end Cert.KernelIdeal.Gen

end
-- ==== Proof.Frames.lean ====
/- Each program ends, its arguments as they were, its counters at zero. -/
module

public import proofs.«01_k».proof.Defs
public import proofs.«01_k».proof.Proof.KI.Run
public import proofs.«01_k».proof.Proof.Gen.Kernel
public import proofs.«01_k».proof.Proof.Gen.ReferenceIdeal.Run

@[expose] public section

set_option maxRecDepth 16384

noncomputable section

namespace Cert.Rpn

open Idealize.ShloMosaic Idealize.ShloMosaic.TcCoe Idealize.SL.Sem

section
open Cert.KernelIdeal Cert.KernelIdeal.Gen

/-- The arguments are as they were. -/
abbrev SameArgs {F : FTy → Type} (m s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)

theorem sameArgs {F : FTy → Type} {m s : (ℓ : Loc nD τ sig) → Buf (Elt F) ℓ} {c : Dev nD}
    (h : ∀ a ∈ argRefs, s ((c.tc : Thread nD τ).loc a) = m ((c.tc : Thread nD τ).loc a)) : SameArgs m s c :=
  ⟨h _ (by decide), h _ (by decide), h _ (by decide), h _ (by decide), h _ (by decide), h _ (by decide), h _ (by decide), h _ (by decide),
    h _ (by decide), h _ (by decide), h _ (by decide)⟩

/-- The frame over any floats. -/
def Ends (F : FTy → Type) [FloatOps F] : Prop := ∀ (m : (ℓ : Loc nD τ sig) → Buf (Elt F) ℓ) (g : Dev nD → PrngReg), True →
  θ_run defs (onTc (τ := τ) (main (F := F))) ⟨m, fun _ => 0, g⟩ (fun r => (∀ c : Dev nD, SameArgs m r.2.mem c) ∧ r.2.sem = fun _ => 0)

theorem ends (F : FTy → Type) [FloatOps F] : Ends F := fun m g _ =>
  (θ_run defs _ _).mono (fun _ h => ⟨fun c => sameArgs (h.1 c).1, h.2⟩) (run_ends m g)

end

/-- The two printed texts of the kernel are one, so the frame over words is the frame of the kernel as written. -/
theorem same_text : Cert.quiescent_Kernel (hKernel := Cert.Kernel.Gen.facts) = Ends Bits := by
  chain_rfl

/-- The kernel ends, arguments unchanged, counters at zero; -/
theorem frame_kernel : Cert.quiescent_Kernel (hKernel := Cert.Kernel.Gen.facts) := same_text ▸ ends Bits

/-- so does the idealized kernel, -/
theorem frame_ideal : Cert.quiescent_KernelIdeal (hKernelIdeal := Cert.KernelIdeal.Gen.facts) := ends Ideal

open Cert.ReferenceIdeal in
/-- and the idealized reference. -/
theorem frame_reference : Cert.quiescent_ReferenceIdeal (hReferenceIdeal := Cert.ReferenceIdeal.Gen.facts) := fun m g _ =>
  (θ_run defs _ _).mono (fun _ h => ⟨fun c => (h c).2.2.2, sem_eq_zero_of_no_sems (by decide) _⟩) (Cert.ReferenceIdeal.Value.run (F := Ideal) m g)

end Cert.Rpn

end
-- ==== Proof.Spec.lean ====
/- What a level computes, over the extended reals, position by position. -/
module

public import Idealize.ShloMosaic.Lib.Pointwise
public import Idealize.ShloMosaic.Lib.Pointwise.IndexVar

@[expose] public section

noncomputable section

namespace Cert.Rpn

open Idealize.ShloMosaic

/-- A batch of square feature maps. -/
abbrev Maps (H : ℕ) : Shape := ⟨4, ![2, H, H, 256]⟩

/-- The pixel at row h - 1 and column w - 1 of image b, zero outside the image. -/
def pix {H : ℕ} (x : (Maps H).Idx → EReal) (b : Fin 2) (h w : ℕ) (k : Fin 256) : EReal :=
  if hh : (1 ≤ h ∧ h ≤ H) ∧ 1 ≤ w ∧ w ≤ H then x (ix4 b (⟨h - 1, by omega⟩ : Fin H) (⟨w - 1, by omega⟩ : Fin H) k) else 0

theorem pix_in {H : ℕ} (x : (Maps H).Idx → EReal) (b : Fin 2) (h w : Fin H) (k : Fin 256) : pix x b (h + 1) (w + 1) k = x (ix4 b h w k) := by
  rw [pix, dif_pos ⟨⟨by omega, by omega⟩, by omega, by omega⟩]; rfl

theorem pix_out {H : ℕ} (x : (Maps H).Idx → EReal) (b : Fin 2) (h w : ℕ) (k : Fin 256) (hh : ¬((1 ≤ h ∧ h ≤ H) ∧ 1 ≤ w ∧ w ≤ H)) : pix x b h w k = 0 :=
  dif_neg hh

/-- The weights of the heads of a level: three by three kernel, bias. -/
abbrev Ker := Fin 9 → Fin 256 → Fin 512 → EReal

/-- The shared features at row h, column w, from padded pixels. -/
def feat (P : ℕ → ℕ → Fin 256 → EReal) (K : Ker) (B : Fin 512 → EReal) (h w : ℕ) (o : Fin 512) : EReal :=
  max ((∑ t : Fin 9, ∑ k : Fin 256, P (h + t.val / 3) (w + t.val % 3) k * K t k o) + B o) 0

/-- One output channel of a head there. -/
def head (P : ℕ → ℕ → Fin 256 → EReal) (K : Ker) (B : Fin 512 → EReal) (A : Fin 512 → EReal) (a : EReal) (h w : ℕ) : EReal :=
  (∑ o : Fin 512, feat P K B h w o * A o) + a

/-- The softmax of a pair, at its first. -/
def soft (l o : EReal) : EReal :=
  Ideal.div (Ideal.exp (l - max l o)) (Ideal.exp (l - max l o) + Ideal.exp (o - max l o))

/-- The weights, as the arguments hold them. -/
structure Args where
  ker : (⟨4, ![3, 3, 256, 512]⟩ : Shape).Idx → EReal
  bias : (⟨1, ![512]⟩ : Shape).Idx → EReal
  wl : (⟨4, ![1, 1, 512, 6]⟩ : Shape).Idx → EReal
  bl : (⟨1, ![6]⟩ : Shape).Idx → EReal
  wd : (⟨4, ![1, 1, 512, 12]⟩ : Shape).Idx → EReal
  bd : (⟨1, ![12]⟩ : Shape).Idx → EReal

/-- The kernel by taps. -/
def Args.K (A : Args) : Ker := fun t k o => A.ker (ix4 (⟨t.val / 3, by omega⟩ : Fin 3) (⟨t.val % 3, by omega⟩ : Fin 3) k o)
def Args.B (A : Args) : Fin 512 → EReal := fun o => A.bias (ix1 o)

/-- Logit j and delta j of a position of image b. -/
def Args.logit {H : ℕ} (A : Args) (x : (Maps H).Idx → EReal) (b : Fin 2) (h w : ℕ) (j : Fin 6) : EReal :=
  head (pix x b) A.K A.B (fun o => A.wl (ix4 0 0 o j)) (A.bl (ix1 j)) h w
def Args.delta {H : ℕ} (A : Args) (x : (Maps H).Idx → EReal) (b : Fin 2) (h w : ℕ) (j : Fin 12) : EReal :=
  head (pix x b) A.K A.B (fun o => A.wd (ix4 0 0 o j)) (A.bd (ix1 j)) h w

/-- Anchor r of a level (three to a position, positions in row order): its logits, probabilities and deltas. -/
def Args.L {H : ℕ} (A : Args) (x : (Maps H).Idx → EReal) (b : Fin 2) (r : ℕ) (l : Fin 2) : EReal :=
  A.logit x b (r / 3 / H) (r / 3 % H) ⟨2 * (r % 3) + l.val, by omega⟩
def Args.Q {H : ℕ} (A : Args) (x : (Maps H).Idx → EReal) (b : Fin 2) (r : ℕ) (l : Fin 2) : EReal :=
  soft (A.L x b r l) (A.L x b r ⟨1 - l.val, by omega⟩)
def Args.D {H : ℕ} (A : Args) (x : (Maps H).Idx → EReal) (b : Fin 2) (r : ℕ) (l : Fin 4) : EReal :=
  A.delta x b (r / 3 / H) (r / 3 % H) ⟨4 * (r % 3) + l.val, by omega⟩

/-! ## The five levels together -/

/-- One output array: every level's anchors, n lanes. -/
abbrev All (n : ℕ) : Shape := ⟨3, ![2, 261888, n]⟩

/-- The feature maps of the five levels. -/
structure Feats where
  x0 : (Maps 256).Idx → EReal
  x1 : (Maps 128).Idx → EReal
  x2 : (Maps 64).Idx → EReal
  x3 : (Maps 32).Idx → EReal
  x4 : (Maps 16).Idx → EReal

/-- Five levels' anchors one level after another. -/
def stacked {n : ℕ} (g0 g1 g2 g3 g4 : Fin 2 → ℕ → Fin n → EReal) : (All n).Idx → EReal := fun i =>
  if (i 1).val < 196608 then g0 (i 0) (i 1).val (i 2)
  else if (i 1).val < 245760 then g1 (i 0) ((i 1).val - 196608) (i 2)
  else if (i 1).val < 258048 then g2 (i 0) ((i 1).val - 245760) (i 2)
  else if (i 1).val < 261120 then g3 (i 0) ((i 1).val - 258048) (i 2)
  else g4 (i 0) ((i 1).val - 261120) (i 2)

/-- The three results. -/
def Args.logits (A : Args) (X : Feats) : (All 2).Idx → EReal := stacked (A.L X.x0) (A.L X.x1) (A.L X.x2) (A.L X.x3) (A.L X.x4)
def Args.probs (A : Args) (X : Feats) : (All 2).Idx → EReal := stacked (A.Q X.x0) (A.Q X.x1) (A.Q X.x2) (A.Q X.x3) (A.Q X.x4)
def Args.deltas (A : Args) (X : Feats) : (All 4).Idx → EReal := stacked (A.D X.x0) (A.D X.x1) (A.D X.x2) (A.D X.x3) (A.D X.x4)

end Cert.Rpn

end
-- ==== Proof.Tile.lean ====
/- A tile of the level kernel, over the extended reals, read position by position. -/
module

public import proofs.«01_k».proof.Proof.Level
public import proofs.«01_k».proof.Proof.Spec

@[expose] public section

noncomputable section

namespace Cert.Rpn

open Idealize.ShloMosaic Idealize.SL.Sem

variable {T W N : ℕ}

section
variable (g : Geo T W N)

/-- A neighbour row at a pixel. -/
theorem edge_apply (off : BitVec 1) (v : Vec Ideal (Halo W) .f32) (c : Fin W) (k : Fin 256) (z : Fin 1) :
    edge (F := Ideal) g off v (ix3 z c k) = if off = 1#1 then 0 else (v (ix4 (0 : Fin 1) (0 : Fin 1) c k) : EReal) := by
  have e : shapeCast (Img 1 W) v g.halo (ix3 z c k) = v (ix4 (0 : Fin 1) (0 : Fin 1) c k) :=
    shapeCast_apply _ _ _ _ (by
      rw [rowMajor_val3 _ (W * 256) 256 rfl rfl, rowMajor_val4 _ (1 * (W * 256)) (W * 256) 256 rfl rfl rfl]
      have := z.isLt
      simp)
  unfold edge
  unfold shapeCast at e
  pointwise
  rw [e]; rfl

/-- The centre rows at a pixel. -/
theorem ctr_apply (v : Vec Ideal (Ctr T W) .f32) (r : Fin T) (c : Fin W) (k : Fin 256) :
    shapeCast (Img T W) v g.ctr (ix3 r c k) = v (ix4 (0 : Fin 1) r c k) :=
  shapeCast_apply _ _ _ _ (by
    rw [rowMajor_val3 _ (W * 256) 256 rfl rfl, rowMajor_val4 _ (T * (W * 256)) (W * 256) 256 rfl rfl rfl]
    simp)

/-- The padded block holds the padded pixels of the tile whose first row is h0. -/
theorem padded_apply (top bot : BitVec 1) (prev next : Vec Ideal (Halo W) .f32) (ctr : Vec Ideal (Ctr T W) .f32)
    (P : ℕ → ℕ → Fin 256 → EReal) (h0 : ℕ)
    (hp : ∀ (c : Fin W) k, (if top = 1#1 then 0 else (prev (ix4 (0 : Fin 1) (0 : Fin 1) c k) : EReal)) = P h0 (c + 1) k)
    (hc : ∀ (r : Fin T) (c : Fin W) k, (ctr (ix4 (0 : Fin 1) r c k) : EReal) = P (h0 + r + 1) (c + 1) k)
    (hn : ∀ (c : Fin W) k, (if bot = 1#1 then 0 else (next (ix4 (0 : Fin 1) (0 : Fin 1) c k) : EReal)) = P (h0 + T + 1) (c + 1) k)
    (hl : ∀ h k, P h 0 k = 0) (hr : ∀ h k, P h (W + 1) k = 0) (r : Fin (T + 2)) (c : Fin (W + 2)) (k : Fin 256) :
    padded (F := Ideal) g top bot prev next ctr (ix3 r c k) = P (h0 + r) c k := by
  have hct := ctr_apply g ctr
  unfold shapeCast at hct
  have hr' := r.isLt
  have hc' := c.isLt
  unfold padded
  pointwise
  by_cases h1 : (c : ℕ) < 1
  · rw [dif_pos h1, show (c : ℕ) = 0 by omega, hl]
  rw [dif_neg h1]
  by_cases h2 : (c : ℕ) - 1 < W
  swap
  · rw [dif_neg h2, show (c : ℕ) = W + 1 by omega, hr]
  rw [dif_pos h2]
  by_cases h3 : (r : ℕ) < 1
  · rw [dif_pos h3, edge_apply, hp]
    exact congrFun (by rw [show h0 + (r : ℕ) = h0 by omega]; exact congrArg (P h0) (show (c : ℕ) - 1 + 1 = c by omega)) k
  rw [dif_neg h3]
  by_cases h4 : (r : ℕ) - 1 < T
  · rw [dif_pos h4, hct, hc]
    exact congrFun (congr (congrArg P (show h0 + ((r : ℕ) - 1) + 1 = h0 + r by omega)) (show (c : ℕ) - 1 + 1 = c by omega)) k
  · rw [dif_neg h4, edge_apply, hn]
    exact congrFun (congr (congrArg P (show h0 + T + 1 = h0 + (r : ℕ) by omega)) (show (c : ℕ) - 1 + 1 = c by omega)) k

/-- One tap at a position. -/
theorem tap_apply (hN : N = T * W) (x : FVec Ideal (Img (T + 2) (W + 2)) .bf16) (a b : ℕ) (h : (Img (T + 2) (W + 2)).Slices ![a, b, 0] (Img T W))
    (p : Fin N) (k : Fin 256) (r : Fin (T + 2)) (c : Fin (W + 2)) (hr : r.val = p / W + a) (hc : c.val = p % W + b) :
    tap (F := Ideal) g x ![a, b, 0] h (ix2 p k) = x (ix3 r c k) := by
  have hp := p.isLt
  have hW : 0 < W := Nat.pos_of_ne_zero (by rintro rfl; subst hN; simp at hp)
  have hd : p / W < T := Nat.div_lt_of_lt_mul (by rw [Nat.mul_comm]; omega)
  refine (shapeCast_apply _ _ _ (ix3 (⟨p / W, hd⟩ : Fin T) (⟨p % W, Nat.mod_lt _ hW⟩ : Fin W) k) ?_).trans ?_
  · rw [rowMajor_val3 _ (W * 256) 256 rfl rfl, rowMajor_val2 _ 256 rfl]
    show p / W * (W * 256) + p % W * 256 + k = p * 256 + k
    have := Nat.div_add_mod p W
    rw [← Nat.mul_assoc, ← Nat.add_mul, Nat.mul_comm (p / W), this]
  · refine extractStridedSlice_apply _ _ _ _ _ fun d => ?_
    match d with
    | ⟨0, _⟩ => show r.val = a + p / W; omega
    | ⟨1, _⟩ => show c.val = b + p % W; omega
    | ⟨2, _⟩ => show k.val = 0 + k.val; omega

/-- Nine arrays of 256 lanes side by side. -/
theorem nine_apply {α : Type} (f : Fin 9 → (Mat N 256).Idx → α)
    (h : Shape.Concatenates [Mat N 256, Mat N 256, Mat N 256, Mat N 256, Mat N 256, Mat N 256, Mat N 256, Mat N 256, Mat N 256] (Mat N 2304) 1)
    (p : Fin N) (t : Fin 9) (k : Fin 256) (i : Fin 2304) (hi : i.val = t * 256 + k) :
    concatenate (Mat N 2304) 1 [⟨Mat N 256, f 0⟩, ⟨Mat N 256, f 1⟩, ⟨Mat N 256, f 2⟩, ⟨Mat N 256, f 3⟩, ⟨Mat N 256, f 4⟩, ⟨Mat N 256, f 5⟩,
      ⟨Mat N 256, f 6⟩, ⟨Mat N 256, f 7⟩, ⟨Mat N 256, f 8⟩] h (ix2 p i) = f t (ix2 p k) :=
  Idealize.ShloMosaic.concatenate_ofFn_apply (s₁ := Mat N 256) (t := Mat N 2304) 1 f h rfl 256 rfl (ix2 p i) t
    (by show i.val / 256 = t.val; omega) (ix2 p k) (by show k.val = i.val % 256; omega)
    fun b hb => match b with
      | ⟨0, _⟩ => rfl
      | ⟨1, _⟩ => absurd rfl hb

/-- The nine taps at a position. -/
theorem patches_apply (hN : N = T * W) (x : FVec Ideal (Img (T + 2) (W + 2)) .bf16) (p : Fin N) (t : Fin 9) (k : Fin 256) (r : Fin (T + 2)) (c : Fin (W + 2))
    (hr : r.val = p / W + t / 3) (hc : c.val = p % W + t % 3) (i : Fin 2304) (hi : i.val = t * 256 + k) :
    patches (F := Ideal) g x (ix2 p i) = x (ix3 r c k) := by
  have go : ∀ (a b : ℕ) (h : (Img (T + 2) (W + 2)).Slices ![a, b, 0] (Img T W)), t.val / 3 = a → t.val % 3 = b →
      tap (F := Ideal) g x ![a, b, 0] h (ix2 p k) = x (ix3 r c k) := fun a b h ha hb => tap_apply g hN x a b h p k r c (by omega) (by omega)
  refine (nine_apply ![tap g x ![0, 0, 0] g.s00, tap g x ![0, 1, 0] g.s01, tap g x ![0, 2, 0] g.s02,
    tap g x ![1, 0, 0] g.s10, tap g x ![1, 1, 0] g.s11, tap g x ![1, 2, 0] g.s12,
    tap g x ![2, 0, 0] g.s20, tap g x ![2, 1, 0] g.s21, tap g x ![2, 2, 0] g.s22] g.taps p t k i hi).trans ?_
  match t, go with
  | ⟨0, _⟩, go => exact go _ _ g.s00 (by simp) (by simp)
  | ⟨1, _⟩, go => exact go _ _ g.s01 (by simp) (by simp)
  | ⟨2, _⟩, go => exact go _ _ g.s02 (by simp) (by simp)
  | ⟨3, _⟩, go => exact go _ _ g.s10 (by simp) (by simp)
  | ⟨4, _⟩, go => exact go _ _ g.s11 (by simp) (by simp)
  | ⟨5, _⟩, go => exact go _ _ g.s12 (by simp) (by simp)
  | ⟨6, _⟩, go => exact go _ _ g.s20 (by simp) (by simp)
  | ⟨7, _⟩, go => exact go _ _ g.s21 (by simp) (by simp)
  | ⟨8, _⟩, go => exact go _ _ g.s22 (by simp) (by simp)

theorem shared_apply (p : FVec Ideal (Mat N 2304) .bf16) (w : Vec Ideal (Mat 2304 512) .bf16) (b : Vec Ideal (Mat 1 512) .f32) (i : Fin N) (o : Fin 512) :
    shared (F := Ideal) g p w b (ix2 i o) = max ((∑ k : Fin 2304, (p (ix2 i k) : EReal) * w (ix2 k o)) + b (ix2 0 o)) 0 := by
  unfold shared
  pointwise

theorem heads_apply (y : FVec Ideal (Mat N 512) .f32) (w : Vec Ideal (Mat 512 18) .bf16) (b : Vec Ideal (Mat 1 18) .f32) (i : Fin N) (j : Fin 18) :
    heads (F := Ideal) g y w b (ix2 i j) = (∑ o : Fin 512, (y (ix2 i o) : EReal) * w (ix2 o j)) + b (ix2 0 j) := by
  unfold heads
  pointwise

/-- The swapping matrix. -/
theorem swap_apply (i j : Fin 6) : swap (F := Ideal) g (ix2 i j) = if i.val = (if j.val % 2 = 0 then j.val + 1 else j.val - 1) then 1 else 0 := by
  unfold swap
  pointwise
  have e : ∀ i j : Fin 6, BitVec.setWidth 32 (IntOp.cmpi .eq (IntOp.xori (BitVec.ofNat 32 i) 1#32) (BitVec.ofNat 32 j))
      = if i.val = (if j.val % 2 = 0 then j.val + 1 else j.val - 1) then 1#32 else 0#32 := by decide
  rw [e]
  by_cases h : i.val = (if j.val % 2 = 0 then j.val + 1 else j.val - 1)
  · rw [if_pos h, if_pos h]
    show (((1#32 : BitVec 32).toInt : ℝ) : EReal) = 1
    simp
  · rw [if_neg h, if_neg h]
    show (((0#32 : BitVec 32).toInt : ℝ) : EReal) = 0
    simp

theorem pairs_apply (l : FVec Ideal (Mat N 6) .f32) (i : Fin N) (j j' : Fin 6) (hj : j'.val = if j.val % 2 = 0 then j.val + 1 else j.val - 1) :
    pairs (F := Ideal) g l (ix2 i j) = soft (l (ix2 i j)) (l (ix2 i j')) := by
  have e : (∑ x : Fin 6, (l (ix2 i x) : EReal) * swap (F := Ideal) g (ix2 x j)) = l (ix2 i j') := by
    rw [Finset.sum_eq_single j']
    · rw [swap_apply, if_pos hj, mul_one]
    · intro x _ hx
      rw [swap_apply, if_neg (fun h => hx (Fin.ext (h.trans hj.symm))), mul_zero]
    · simp
  unfold pairs
  pointwise
  rw [e]; rfl

/-- **The tile's outputs.** The eighteen outputs of position p of the tile whose first row is h0. -/
theorem outs_apply (hN : N = T * W) (top bot : BitVec 1) (prev next : Vec Ideal (Halo W) .f32) (ctr : Vec Ideal (Ctr T W) .f32)
    (w : Vec Ideal (Mat 2304 512) .bf16) (b : Vec Ideal (Mat 1 512) .f32) (wh : Vec Ideal (Mat 512 18) .bf16) (bh : Vec Ideal (Mat 1 18) .f32)
    (P : ℕ → ℕ → Fin 256 → EReal) (h0 : ℕ)
    (hp : ∀ (c : Fin W) k, (if top = 1#1 then 0 else (prev (ix4 (0 : Fin 1) (0 : Fin 1) c k) : EReal)) = P h0 (c + 1) k)
    (hc : ∀ (r : Fin T) (c : Fin W) k, (ctr (ix4 (0 : Fin 1) r c k) : EReal) = P (h0 + r + 1) (c + 1) k)
    (hn : ∀ (c : Fin W) k, (if bot = 1#1 then 0 else (next (ix4 (0 : Fin 1) (0 : Fin 1) c k) : EReal)) = P (h0 + T + 1) (c + 1) k)
    (hl : ∀ h k, P h 0 k = 0) (hr : ∀ h k, P h (W + 1) k = 0)
    (K : Ker) (hK : ∀ (t : Fin 9) (k : Fin 256) (o : Fin 512) (i : Fin 2304), i.val = t * 256 + k → (w (ix2 i o) : EReal) = K t k o)
    (B : Fin 512 → EReal) (hB : ∀ o, (b (ix2 0 o) : EReal) = B o) (j : Fin 18)
    (A : Fin 512 → EReal) (hA : ∀ o, (wh (ix2 o j) : EReal) = A o) (a : EReal) (ha : (bh (ix2 0 j) : EReal) = a) (p : Fin N) :
    outs (F := Ideal) g top bot prev next ctr w b wh bh (ix2 p j) = head P K B A a (h0 + p / W) (p % W) := by
  have hW : 0 < W := Nat.pos_of_ne_zero (by rintro rfl; subst hN; exact absurd p.isLt (by simp))
  have hd : p / W < T := Nat.div_lt_of_lt_mul (by rw [Nat.mul_comm]; have := p.isLt; omega)
  have hm : p % W < W := Nat.mod_lt _ hW
  unfold outs
  rw [heads_apply, ha, head]
  refine congrArg (· + a) (Finset.sum_congr rfl fun o _ => ?_)
  rw [hA, shared_apply, hB, feat, Fin.sum_univ_tiles 9 256 rfl]
  refine congrArg (fun z : EReal => max (z + B o) 0 * A o) (Finset.sum_congr rfl fun t _ => Finset.sum_congr rfl fun k _ => ?_)
  rw [hK t k o _ rfl, patches_apply g hN _ p t k (⟨p / W + t / 3, by omega⟩ : Fin (T + 2)) (⟨p % W + t % 3, by omega⟩ : Fin (W + 2)) rfl rfl _ rfl,
    padded_apply g top bot prev next ctr P h0 hp hc hn hl hr]
  exact congrArg (fun z => P z (p % W + t % 3) k * K t k o) (Nat.add_assoc _ _ _).symm

/-- A row of a block of logits, and of a block of deltas. -/
theorem weave6_apply {M : ℕ} (hM : M = 3 * N) (v : FVec Ideal (Mat N 6) .f32) (z : Fin 1) (r : Fin M) (l : Fin 2) (p : Fin N) (j : Fin 6)
    (hp : p.val = r / 3) (hj : j.val = 2 * (r % 3) + l) : weave6 (F := Ideal) g hM v (ix3 z r l) = v (ix2 p j) := by
  have go : ∀ (o : ℕ) (h : (Mat N 6).Slices ![0, o] (Mat N 2)), j.val = o + l → lane2 (F := Ideal) g ![0, o] h v (third hM (ix3 z r l)) = v (ix2 p j) := by
    intro o h ho
    refine (shapeCast_apply _ _ _ (ix2 p l) ?_).trans (extractStridedSlice_apply _ _ _ _ _ fun d => ?_)
    · rw [rowMajor_val3 _ (N * 2) 2 rfl rfl, rowMajor_val2 _ 2 rfl]
      show p.val * 2 + l.val = z.val * (N * 2) + r.val / 3 * 2 + l.val
      have := z.isLt
      rw [show z.val = 0 by omega, hp]; omega
    · match d with
      | ⟨0, _⟩ => show p.val = 0 + p.val; omega
      | ⟨1, _⟩ => exact ho
  unfold weave6 weave
  show (if r.val % 3 = 0 then _ else if r.val % 3 = 1 then _ else _) = _
  by_cases h0 : r.val % 3 = 0
  · rw [if_pos h0]; exact go _ _ (by omega)
  · rw [if_neg h0]
    by_cases h1 : r.val % 3 = 1
    · rw [if_pos h1]; exact go _ _ (by omega)
    · rw [if_neg h1]; exact go _ _ (by omega)

theorem weave12_apply {M : ℕ} (hM : M = 3 * N) (v : FVec Ideal (Mat N 12) .f32) (z : Fin 1) (r : Fin M) (l : Fin 4) (p : Fin N) (j : Fin 12)
    (hp : p.val = r / 3) (hj : j.val = 4 * (r % 3) + l) : weave12 (F := Ideal) g hM v (ix3 z r l) = v (ix2 p j) := by
  have go : ∀ (o : ℕ) (h : (Mat N 12).Slices ![0, o] (Mat N 4)), j.val = o + l → lane4 (F := Ideal) g ![0, o] h v (third hM (ix3 z r l)) = v (ix2 p j) := by
    intro o h ho
    refine (shapeCast_apply _ _ _ (ix2 p l) ?_).trans (extractStridedSlice_apply _ _ _ _ _ fun d => ?_)
    · rw [rowMajor_val3 _ (N * 4) 4 rfl rfl, rowMajor_val2 _ 4 rfl]
      show p.val * 4 + l.val = z.val * (N * 4) + r.val / 3 * 4 + l.val
      have := z.isLt
      rw [show z.val = 0 by omega, hp]; omega
    · match d with
      | ⟨0, _⟩ => show p.val = 0 + p.val; omega
      | ⟨1, _⟩ => exact ho
  unfold weave12 weave
  show (if r.val % 3 = 0 then _ else if r.val % 3 = 1 then _ else _) = _
  by_cases h0 : r.val % 3 = 0
  · rw [if_pos h0]; exact go _ _ (by omega)
  · rw [if_neg h0]
    by_cases h1 : r.val % 3 = 1
    · rw [if_pos h1]; exact go _ _ (by omega)
    · rw [if_neg h1]; exact go _ _ (by omega)

/-- The logits are the first six outputs, the deltas the last twelve. -/
theorem logits6_apply (o : FVec Ideal (Mat N 18) .f32) (p : Fin N) (j : Fin 6) : logits6 (F := Ideal) g o (ix2 p j) = o (ix2 p (⟨j.val, by omega⟩ : Fin 18)) :=
  extractStridedSlice_apply _ _ _ _ _ fun d => match d with
    | ⟨0, _⟩ => (Nat.zero_add _).symm
    | ⟨1, _⟩ => (Nat.zero_add _).symm
theorem deltas12_apply (o : FVec Ideal (Mat N 18) .f32) (p : Fin N) (j : Fin 12) :
    deltas12 (F := Ideal) g o (ix2 p j) = o (ix2 p (⟨6 + j.val, by omega⟩ : Fin 18)) :=
  extractStridedSlice_apply _ _ _ _ _ fun d => match d with
    | ⟨0, _⟩ => (Nat.zero_add _).symm
    | ⟨1, _⟩ => rfl

end

end Cert.Rpn

end
-- ==== Proof.Anchors.lean ====
/- A tile's three blocks hold the level's logits, probabilities and deltas at the tile's anchors. -/
module

public import proofs.«01_k».proof.Proof.Tile

@[expose] public section

noncomputable section

namespace Cert.Rpn

open Idealize.ShloMosaic Idealize.SL.Sem

/-- The four weight blocks hold the weights. -/
structure Weigh (A : Args) (w : Vec Ideal (Mat 2304 512) .bf16) (b : Vec Ideal (Mat 1 512) .f32) (wh : Vec Ideal (Mat 512 18) .bf16)
    (bh : Vec Ideal (Mat 1 18) .f32) : Prop where
  ker : ∀ (t : Fin 9) (k : Fin 256) (o : Fin 512) (i : Fin 2304), i.val = t * 256 + k → (w (ix2 i o) : EReal) = A.K t k o
  bias : ∀ o : Fin 512, (b (ix2 0 o) : EReal) = A.B o
  wl : ∀ (o : Fin 512) (j : Fin 6), (wh (ix2 o (⟨j.val, by omega⟩ : Fin 18)) : EReal) = A.wl (ix4 0 0 o j)
  bl : ∀ j : Fin 6, (bh (ix2 0 (⟨j.val, by omega⟩ : Fin 18)) : EReal) = A.bl (ix1 j)
  wd : ∀ (o : Fin 512) (j : Fin 12), (wh (ix2 o (⟨6 + j.val, by omega⟩ : Fin 18)) : EReal) = A.wd (ix4 0 0 o j)
  bd : ∀ j : Fin 12, (bh (ix2 0 (⟨6 + j.val, by omega⟩ : Fin 18)) : EReal) = A.bd (ix1 j)

variable {T H N M : ℕ}

/-- The three pixel blocks hold tile i of image b and the rows next to it. -/
structure Around (x : (Maps H).Idx → EReal) (b : Fin 2) (i : ℕ) (top bot : BitVec 1) (prev next : Vec Ideal (Halo H) .f32)
    (ctr : Vec Ideal (Ctr T H) .f32) : Prop where
  first : top = 1#1 ↔ i = 0
  last : bot = 1#1 ↔ (i + 1) * T = H
  inside : (i + 1) * T ≤ H
  prev : ∀ (r : Fin H) (c : Fin H) (k : Fin 256), r.val = i * T - 1 → (prev (ix4 (0 : Fin 1) (0 : Fin 1) c k) : EReal) = x (ix4 b r c k)
  next : ∀ (r : Fin H) (c : Fin H) (k : Fin 256), r.val = min ((i + 1) * T) (H - 1) → (next (ix4 (0 : Fin 1) (0 : Fin 1) c k) : EReal) = x (ix4 b r c k)
  ctr : ∀ (r : Fin H) (q : Fin T) (c : Fin H) (k : Fin 256), r.val = i * T + q → (ctr (ix4 (0 : Fin 1) q c k) : EReal) = x (ix4 b r c k)

section
variable (g : Geo T H N) (hN : N = T * H) (hT : 0 < T) {A : Args} {x : (Maps H).Idx → EReal} {b : Fin 2} {i : ℕ} {top bot : BitVec 1}
  {prev next : Vec Ideal (Halo H) .f32} {ctr : Vec Ideal (Ctr T H) .f32} {w : Vec Ideal (Mat 2304 512) .bf16} {bs : Vec Ideal (Mat 1 512) .f32}
  {wh : Vec Ideal (Mat 512 18) .bf16} {bh : Vec Ideal (Mat 1 18) .f32}
  (ha : Around x b i top bot prev next ctr) (hw : Weigh A w bs wh bh)

include hN hT ha hw

theorem head_at (j : Fin 18) (C : Fin 512 → EReal) (hC : ∀ o, (wh (ix2 o j) : EReal) = C o) (a : EReal) (hb : (bh (ix2 0 j) : EReal) = a) (p : Fin N) :
    outs (F := Ideal) g top bot prev next ctr w bs wh bh (ix2 p j) = head (pix x b) A.K A.B C a (i * T + p / H) (p % H) := by
  have hi := ha.inside
  rw [Nat.add_mul, Nat.one_mul] at hi
  refine outs_apply g hN top bot prev next ctr w bs wh bh (pix x b) (i * T) (fun c k => ?_) (fun r c k => ?_) (fun c k => ?_)
    (fun h k => pix_out x b h 0 k (by omega)) (fun h k => pix_out x b h _ k (by omega)) A.K hw.ker A.B hw.bias j C hC a hb p
  · by_cases h : i = 0
    · rw [if_pos (ha.first.mpr h), pix_out]
      subst h; omega
    · have h1 : 0 < i * T := Nat.mul_pos (Nat.pos_of_ne_zero h) hT
      rw [if_neg fun e => h (ha.first.mp e), ha.prev ⟨i * T - 1, by omega⟩ c k rfl]
      exact (pix_in x b _ c k).symm.trans (congrArg (fun z => pix x b z (c + 1) k) (show i * T - 1 + 1 = i * T by omega))
  · have := r.isLt
    exact (ha.ctr ⟨i * T + r, by omega⟩ r c k rfl).trans (pix_in x b _ c k).symm
  · have hl := ha.last
    rw [Nat.add_mul, Nat.one_mul] at hl
    by_cases h : i * T + T = H
    · rw [if_pos (hl.mpr h), pix_out]
      omega
    · rw [if_neg fun e => h (hl.mp e), ha.next ⟨i * T + T, by omega⟩ c k (by rw [Nat.add_mul, Nat.one_mul]; show i * T + T = _; omega)]
      exact (pix_in x b _ c k).symm

theorem logit_at (p : Fin N) (j : Fin 6) : logits6 (F := Ideal) g (outs g top bot prev next ctr w bs wh bh) (ix2 p j)
    = A.logit x b (i * T + p / H) (p % H) j :=
  (logits6_apply g _ p j).trans (head_at g hN hT ha hw _ _ (fun o => hw.wl o j) _ (hw.bl j) p)

theorem delta_at (p : Fin N) (j : Fin 12) : deltas12 (F := Ideal) g (outs g top bot prev next ctr w bs wh bh) (ix2 p j)
    = A.delta x b (i * T + p / H) (p % H) j :=
  (deltas12_apply g _ p j).trans (head_at g hN hT ha hw _ _ (fun o => hw.wd o j) _ (hw.bd j) p)

omit ha hw hT in
/-- Anchor r of the tile is anchor 3 N i + r of the level. -/
theorem place (hM : M = 3 * N) (hH : 0 < H) (i : ℕ) (r : ℕ) : (i * M + r) / 3 / H = i * T + r / 3 / H ∧ (i * M + r) / 3 % H = r / 3 % H ∧ (i * M + r) % 3 = r % 3 := by
  have e : i * M + r = 3 * (i * N) + r := by rw [hM, Nat.mul_left_comm]
  have e3 : (i * M + r) / 3 = i * N + r / 3 := by rw [e]; omega
  have eN : i * N + r / 3 = r / 3 + (i * T) * H := by rw [hN, Nat.mul_assoc]; omega
  refine ⟨?_, ?_, by rw [e]; omega⟩
  · rw [e3, eN, Nat.add_mul_div_right _ _ hH]; omega
  · rw [e3, eN, Nat.add_mul_mod_self_right]

theorem L_at (hM : M = 3 * N) (z : Fin 1) (r : Fin M) (l : Fin 2) :
    weave6 (F := Ideal) g hM (logits6 g (outs g top bot prev next ctr w bs wh bh)) (ix3 z r l) = A.L x b (i * M + r) l := by
  have hr := r.isLt
  have hH : 0 < H := Nat.pos_of_ne_zero (by rintro rfl; omega)
  obtain ⟨e1, e2, e3⟩ := place (T := T) hN hM hH i r
  rw [weave6_apply g hM _ z r l (⟨r / 3, by omega⟩ : Fin N) (⟨2 * (r % 3) + l, by omega⟩ : Fin 6) rfl rfl, logit_at g hN hT ha hw]
  unfold Args.L
  simp only [e1, e2, e3]

theorem Q_at (hM : M = 3 * N) (z : Fin 1) (r : Fin M) (l : Fin 2) :
    weave6 (F := Ideal) g hM (pairs g (logits6 g (outs g top bot prev next ctr w bs wh bh))) (ix3 z r l) = A.Q x b (i * M + r) l := by
  have hj : 2 * (r.val % 3) + (1 - l.val) = if (2 * (r.val % 3) + l.val) % 2 = 0 then 2 * (r.val % 3) + l.val + 1 else 2 * (r.val % 3) + l.val - 1 := by
    split <;> omega
  have hr := r.isLt
  have hH : 0 < H := Nat.pos_of_ne_zero (by rintro rfl; omega)
  obtain ⟨e1, e2, e3⟩ := place (T := T) hN hM hH i r
  rw [weave6_apply g hM _ z r l (⟨r / 3, by omega⟩ : Fin N) (⟨2 * (r % 3) + l, by omega⟩ : Fin 6) rfl rfl,
    pairs_apply g _ _ _ (⟨2 * (r % 3) + (1 - l), by omega⟩ : Fin 6) hj,
    logit_at g hN hT ha hw, logit_at g hN hT ha hw]
  unfold Args.Q Args.L
  simp only [e1, e2, e3]

theorem D_at (hM : M = 3 * N) (z : Fin 1) (r : Fin M) (l : Fin 4) :
    weave12 (F := Ideal) g hM (deltas12 g (outs g top bot prev next ctr w bs wh bh)) (ix3 z r l) = A.D x b (i * M + r) l := by
  have hr := r.isLt
  have hH : 0 < H := Nat.pos_of_ne_zero (by rintro rfl; omega)
  obtain ⟨e1, e2, e3⟩ := place (T := T) hN hM hH i r
  rw [weave12_apply g hM _ z r l (⟨r / 3, by omega⟩ : Fin N) (⟨4 * (r % 3) + l, by omega⟩ : Fin 12) rfl rfl, delta_at g hN hT ha hw]
  unfold Args.D
  simp only [e1, e2, e3]

end

end Cert.Rpn

end
-- ==== Proof.KI.Value.lean ====
/- What each launch leaves: inside its own rows the head over its feature map, elsewhere what the arrays held. -/
module

public import proofs.«01_k».proof.Proof.KI.Levels
public import proofs.«01_k».proof.Proof.Anchors
public import Idealize.ShloMosaic.Lib.Pipeline.ValueKit.Partial

@[expose] public section

set_option maxRecDepth 16384

noncomputable section

namespace Cert.KernelIdeal.Gen

open Idealize.ShloMosaic Idealize.ShloMosaic.TcCoe
open Idealize.SL Idealize.SL.RA Idealize.SL.Sem
open Idealize.ShloMosaic.Pipeline (Dat Cfg Window)
open Cert.Rpn

/-- The rows `lo … hi - 1` of an output are `G`, the others as they were. -/
abbrev rows {n : ℕ} (lo hi : ℕ) (G : Fin 2 → ℕ → Fin n → EReal) (was : FVec Ideal (All n) .f32) :
    FVec Ideal (All n) .f32 :=
  fun i => if lo ≤ (i 1).val ∧ (i 1).val < hi then G (i 0) ((i 1).val - lo) (i 2) else was i

/-- The three outputs `l`, `q`, `d` once the level over `x` has written rows `lo … hi - 1` of `l₀`, `q₀`, `d₀`. -/
structure Left {H : ℕ} (A : Args) (x : (Maps H).Idx → EReal) (lo hi : ℕ) (l₀ q₀ : FVec Ideal (All 2) .f32)
    (d₀ : FVec Ideal (All 4) .f32) (l q : FVec Ideal (All 2) .f32) (d : FVec Ideal (All 4) .f32) :
    Prop where
  logits : l = rows lo hi (A.L x) l₀
  probs : q = rows lo hi (A.Q x) q₀
  deltas : d = rows lo hi (A.D x) d₀

/-- An entry of a tile's block, read at the place of the array it goes to. -/
theorem cell {m n : ℕ} {v : FVec Ideal (Blk m n) .f32} {G : Fin 2 → ℕ → Fin n → EReal} {b : Fin 2} {k : ℕ}
    (e : ∀ z r l, v (ix3 z r l) = G b (k + r.val) l) (y : (Blk m n).Idx) (p : Fin 3 → ℕ) (hp : ∀ a, (y a).val = p a) {b' : Fin 2}
    {r' : ℕ} {l' : Fin n} (hb : p 0 < 1 → b.val = b'.val) (hr : k + p 1 = r') (hl : p 2 = l'.val) : v y = G b' r' l' := by
  refine (congrArg v (eq_ix3 y)).trans ((e _ _ _).trans ?_)
  rw [Fin.ext (hb ((hp 0).symm.trans_lt (y 0).isLt)), ← hr, ← hp 1, Fin.ext ((hp 2).trans hl)]

/-- A row is in blocks a … b - 1 of M rows just when it is one of rows aM … bM - 1. -/
theorem band {M : ℕ} (hM : 0 < M) (a b r : ℕ) : (a ≤ r / M ∧ r / M < b) ↔ a * M ≤ r ∧ r < b * M := by
  rw [Nat.le_div_iff_mul_le hM, Nat.div_lt_iff_lt_mul hM]

variable (V : Held Ideal) (c : Dev nD) {A : Args}

/-! ## Level 0 -/

theorem point0 (t : Fin cfg0.N) : (grid0.coords t 1).val < 32 := (grid0.coords t 1).isLt
theorem i0_0 : ∀ t : Fin cfg0.N, win0_0.index t = ![(grid0.coords t 0).val, (grid0.coords t 1).val * 8 - 1, 0, 0] :=
  (by decide +kernel : ∀ t : Fin grid0.N, _)
theorem i0_1 : ∀ t : Fin cfg0.N, win0_1.index t = ![(grid0.coords t 0).val, (grid0.coords t 1).val, 0, 0] :=
  (by decide +kernel : ∀ t : Fin grid0.N, _)
theorem i0_2 : ∀ t : Fin cfg0.N,
    win0_2.index t = ![(grid0.coords t 0).val, min (((grid0.coords t 1).val + 1) * 8) (256 - 1), 0, 0] :=
  (by decide +kernel : ∀ t : Fin grid0.N, _)
theorem i0_w : ∀ t : Fin cfg0.N, win0_3.index t = ![0, 0] ∧ win0_4.index t = ![0, 0] ∧ win0_5.index t = ![0, 0]
    ∧ win0_6.index t = ![0, 0] := (by decide +kernel : ∀ t : Fin grid0.N, _)
theorem i0_o : ∀ t : Fin cfg0.N, win0_7.index t = ![(grid0.coords t 0).val, 0 + (grid0.coords t 1).val, 0]
    ∧ win0_8.index t = ![(grid0.coords t 0).val, 0 + (grid0.coords t 1).val, 0]
    ∧ win0_9.index t = ![(grid0.coords t 0).val, 0 + (grid0.coords t 1).val, 0] := (by decide +kernel : ∀ t : Fin grid0.N, _)

/-- A point's weights are the whole arrays of them. -/
theorem weigh0 (hw : Weigh A (V c main_v1) (V c main_v6) (V c main_v5) (V c main_v8)) (t : Fin cfg0.N) :
    Weigh A (blk0 V c 3 t) (blk0 V c 5 t) (blk0 V c 4 t) (blk0 V c 6 t) := by
  rw [show blk0 V c 3 t = V c main_v1 by funext y; blk_simp [blk0]; congr 1; blk_ext [(i0_w t).1],
    show blk0 V c 4 t = V c main_v5 by funext y; blk_simp [blk0]; congr 1; blk_ext [(i0_w t).2.1],
    show blk0 V c 5 t = V c main_v6 by funext y; blk_simp [blk0]; congr 1; blk_ext [(i0_w t).2.2.1],
    show blk0 V c 6 t = V c main_v8 by funext y; blk_simp [blk0]; congr 1; blk_ext [(i0_w t).2.2.2]]
  exact hw

/-- A point's three feature blocks are its tile of the map and the rows round it. -/
theorem around0 (t : Fin cfg0.N) (z : Fin 2) (hz : z.val = (grid0.coords t 0).val) : Around (T := 8) (V c main_arg0) z
    (grid0.coords t 1).val (top0 (grid0.coords t)) (bot0 (grid0.coords t)) (blk0 V c 0 t) (blk0 V c 2 t) (blk0 V c 1 t) where
  first := (by decide +kernel : ∀ t : Fin grid0.N, top0 (grid0.coords t) = 1#1 ↔ (grid0.coords t 1).val = 0) t
  last := (by decide +kernel : ∀ t : Fin grid0.N, bot0 (grid0.coords t) = 1#1 ↔ ((grid0.coords t 1).val + 1) * 8 = 256) t
  inside := (by decide +kernel : ∀ t : Fin grid0.N, ((grid0.coords t 1).val + 1) * 8 ≤ 256) t
  prev r q k hr := by
    have := point0 t
    blk_simp [blk0]; congr 1; blk_ext [i0_0] <;> omega
  next r q k hr := by
    have := point0 t
    blk_simp [blk0]; congr 1; blk_ext [i0_2] <;> omega
  ctr r p q k hr := by blk_simp [blk0]; congr 1; blk_ext [i0_1] <;> omega

theorem left0 (hw : Weigh A (V c main_v1) (V c main_v6) (V c main_v5) (V c main_v8)) :
    Left A (V c main_arg0) 0 196608 (V c main_v9_0) (V c main_v9_1) (V c main_v9_2) ((dat0 V c).arrAt 7 cfg0.N)
      ((dat0 V c).arrAt 8 cfg0.N) ((dat0 V c).arrAt 9 cfg0.N) where
  logits := by
    refine (dat0 V c).arrAt_eq_of_coversWhere 7 _ (fun β => 0 ≤ β (1 : Fin 3) ∧ β (1 : Fin 3) < 32) (by decide +kernel)
      (fun t _ y => ?_) (fun j => (band (M := 6144) (by decide) 0 32 (j 1).val).symm)
    obtain ⟨z, hz⟩ : ∃ z : Fin 2, z.val = (grid0.coords t 0).val := ⟨⟨_, (grid0.coords t 0).isLt⟩, rfl⟩
    blk_simp
    refine cell (L_at geo0 rfl (by decide) (around0 V c t z hz) (weigh0 V c hw t) rfl) ((cfg0.win 7).xinj (cfg0.grid.coords t) y)
      (fun a => (y a).val) (fun _ => rfl) (fun _ => ?_) ?_ ?_
      <;> blk_simp [(i0_o t).1] <;> omega
  probs := by
    refine (dat0 V c).arrAt_eq_of_coversWhere 8 _ (fun β => 0 ≤ β (1 : Fin 3) ∧ β (1 : Fin 3) < 32) (by decide +kernel)
      (fun t _ y => ?_) (fun j => (band (M := 6144) (by decide) 0 32 (j 1).val).symm)
    obtain ⟨z, hz⟩ : ∃ z : Fin 2, z.val = (grid0.coords t 0).val := ⟨⟨_, (grid0.coords t 0).isLt⟩, rfl⟩
    blk_simp
    refine cell (Q_at geo0 rfl (by decide) (around0 V c t z hz) (weigh0 V c hw t) rfl) ((cfg0.win 8).xinj (cfg0.grid.coords t) y)
      (fun a => (y a).val) (fun _ => rfl) (fun _ => ?_) ?_ ?_
      <;> blk_simp [(i0_o t).2.1] <;> omega
  deltas := by
    refine (dat0 V c).arrAt_eq_of_coversWhere 9 _ (fun β => 0 ≤ β (1 : Fin 3) ∧ β (1 : Fin 3) < 32) (by decide +kernel)
      (fun t _ y => ?_) (fun j => (band (M := 6144) (by decide) 0 32 (j 1).val).symm)
    obtain ⟨z, hz⟩ : ∃ z : Fin 2, z.val = (grid0.coords t 0).val := ⟨⟨_, (grid0.coords t 0).isLt⟩, rfl⟩
    blk_simp
    refine cell (D_at geo0 rfl (by decide) (around0 V c t z hz) (weigh0 V c hw t) rfl) ((cfg0.win 9).xinj (cfg0.grid.coords t) y)
      (fun a => (y a).val) (fun _ => rfl) (fun _ => ?_) ?_ ?_
      <;> blk_simp [(i0_o t).2.2] <;> omega

/-! ## Level 1 -/

theorem point1 (t : Fin cfg1.N) : (grid1.coords t 1).val < 8 := (grid1.coords t 1).isLt
theorem i1_0 : ∀ t : Fin cfg1.N, win1_0.index t = ![(grid1.coords t 0).val, (grid1.coords t 1).val * 16 - 1, 0, 0] :=
  (by decide +kernel : ∀ t : Fin grid1.N, _)
theorem i1_1 : ∀ t : Fin cfg1.N, win1_1.index t = ![(grid1.coords t 0).val, (grid1.coords t 1).val, 0, 0] :=
  (by decide +kernel : ∀ t : Fin grid1.N, _)
theorem i1_2 : ∀ t : Fin cfg1.N,
    win1_2.index t = ![(grid1.coords t 0).val, min (((grid1.coords t 1).val + 1) * 16) (128 - 1), 0, 0] :=
  (by decide +kernel : ∀ t : Fin grid1.N, _)
theorem i1_w : ∀ t : Fin cfg1.N, win1_3.index t = ![0, 0] ∧ win1_4.index t = ![0, 0] ∧ win1_5.index t = ![0, 0]
    ∧ win1_6.index t = ![0, 0] := (by decide +kernel : ∀ t : Fin grid1.N, _)
theorem i1_o : ∀ t : Fin cfg1.N, win1_7.index t = ![(grid1.coords t 0).val, 32 + (grid1.coords t 1).val, 0]
    ∧ win1_8.index t = ![(grid1.coords t 0).val, 32 + (grid1.coords t 1).val, 0]
    ∧ win1_9.index t = ![(grid1.coords t 0).val, 32 + (grid1.coords t 1).val, 0] := (by decide +kernel : ∀ t : Fin grid1.N, _)

/-- A point's weights are the whole arrays of them. -/
theorem weigh1 (hw : Weigh A (V c main_v1) (V c main_v6) (V c main_v5) (V c main_v8)) (t : Fin cfg1.N) :
    Weigh A (blk1 V c 3 t) (blk1 V c 5 t) (blk1 V c 4 t) (blk1 V c 6 t) := by
  rw [show blk1 V c 3 t = V c main_v1 by funext y; blk_simp [blk1]; congr 1; blk_ext [(i1_w t).1],
    show blk1 V c 4 t = V c main_v5 by funext y; blk_simp [blk1]; congr 1; blk_ext [(i1_w t).2.1],
    show blk1 V c 5 t = V c main_v6 by funext y; blk_simp [blk1]; congr 1; blk_ext [(i1_w t).2.2.1],
    show blk1 V c 6 t = V c main_v8 by funext y; blk_simp [blk1]; congr 1; blk_ext [(i1_w t).2.2.2]]
  exact hw

/-- A point's three feature blocks are its tile of the map and the rows round it. -/
theorem around1 (t : Fin cfg1.N) (z : Fin 2) (hz : z.val = (grid1.coords t 0).val) : Around (T := 16) (V c main_arg1) z
    (grid1.coords t 1).val (top1 (grid1.coords t)) (bot1 (grid1.coords t)) (blk1 V c 0 t) (blk1 V c 2 t) (blk1 V c 1 t) where
  first := (by decide +kernel : ∀ t : Fin grid1.N, top1 (grid1.coords t) = 1#1 ↔ (grid1.coords t 1).val = 0) t
  last := (by decide +kernel : ∀ t : Fin grid1.N, bot1 (grid1.coords t) = 1#1 ↔ ((grid1.coords t 1).val + 1) * 16 = 128) t
  inside := (by decide +kernel : ∀ t : Fin grid1.N, ((grid1.coords t 1).val + 1) * 16 ≤ 128) t
  prev r q k hr := by
    have := point1 t
    blk_simp [blk1]; congr 1; blk_ext [i1_0] <;> omega
  next r q k hr := by
    have := point1 t
    blk_simp [blk1]; congr 1; blk_ext [i1_2] <;> omega
  ctr r p q k hr := by blk_simp [blk1]; congr 1; blk_ext [i1_1] <;> omega

theorem left1 (hw : Weigh A (V c main_v1) (V c main_v6) (V c main_v5) (V c main_v8)) :
    Left A (V c main_arg1) 196608 245760 (V c main_v10_0) (V c main_v10_1) (V c main_v10_2) ((dat1 V c).arrAt 7 cfg1.N)
      ((dat1 V c).arrAt 8 cfg1.N) ((dat1 V c).arrAt 9 cfg1.N) where
  logits := by
    refine (dat1 V c).arrAt_eq_of_coversWhere 7 _ (fun β => 32 ≤ β (1 : Fin 3) ∧ β (1 : Fin 3) < 40) (by decide +kernel)
      (fun t _ y => ?_) (fun j => (band (M := 6144) (by decide) 32 40 (j 1).val).symm)
    obtain ⟨z, hz⟩ : ∃ z : Fin 2, z.val = (grid1.coords t 0).val := ⟨⟨_, (grid1.coords t 0).isLt⟩, rfl⟩
    blk_simp
    refine cell (L_at geo1 rfl (by decide) (around1 V c t z hz) (weigh1 V c hw t) rfl) ((cfg1.win 7).xinj (cfg1.grid.coords t) y)
      (fun a => (y a).val) (fun _ => rfl) (fun _ => ?_) ?_ ?_
      <;> blk_simp [(i1_o t).1] <;> omega
  probs := by
    refine (dat1 V c).arrAt_eq_of_coversWhere 8 _ (fun β => 32 ≤ β (1 : Fin 3) ∧ β (1 : Fin 3) < 40) (by decide +kernel)
      (fun t _ y => ?_) (fun j => (band (M := 6144) (by decide) 32 40 (j 1).val).symm)
    obtain ⟨z, hz⟩ : ∃ z : Fin 2, z.val = (grid1.coords t 0).val := ⟨⟨_, (grid1.coords t 0).isLt⟩, rfl⟩
    blk_simp
    refine cell (Q_at geo1 rfl (by decide) (around1 V c t z hz) (weigh1 V c hw t) rfl) ((cfg1.win 8).xinj (cfg1.grid.coords t) y)
      (fun a => (y a).val) (fun _ => rfl) (fun _ => ?_) ?_ ?_
      <;> blk_simp [(i1_o t).2.1] <;> omega
  deltas := by
    refine (dat1 V c).arrAt_eq_of_coversWhere 9 _ (fun β => 32 ≤ β (1 : Fin 3) ∧ β (1 : Fin 3) < 40) (by decide +kernel)
      (fun t _ y => ?_) (fun j => (band (M := 6144) (by decide) 32 40 (j 1).val).symm)
    obtain ⟨z, hz⟩ : ∃ z : Fin 2, z.val = (grid1.coords t 0).val := ⟨⟨_, (grid1.coords t 0).isLt⟩, rfl⟩
    blk_simp
    refine cell (D_at geo1 rfl (by decide) (around1 V c t z hz) (weigh1 V c hw t) rfl) ((cfg1.win 9).xinj (cfg1.grid.coords t) y)
      (fun a => (y a).val) (fun _ => rfl) (fun _ => ?_) ?_ ?_
      <;> blk_simp [(i1_o t).2.2] <;> omega

/-! ## Level 2 -/

theorem point2 (t : Fin cfg2.N) : (grid2.coords t 1).val < 2 := (grid2.coords t 1).isLt
theorem i2_0 : ∀ t : Fin cfg2.N, win2_0.index t = ![(grid2.coords t 0).val, (grid2.coords t 1).val * 32 - 1, 0, 0] :=
  (by decide +kernel : ∀ t : Fin grid2.N, _)
theorem i2_1 : ∀ t : Fin cfg2.N, win2_1.index t = ![(grid2.coords t 0).val, (grid2.coords t 1).val, 0, 0] :=
  (by decide +kernel : ∀ t : Fin grid2.N, _)
theorem i2_2 : ∀ t : Fin cfg2.N,
    win2_2.index t = ![(grid2.coords t 0).val, min (((grid2.coords t 1).val + 1) * 32) (64 - 1), 0, 0] :=
  (by decide +kernel : ∀ t : Fin grid2.N, _)
theorem i2_w : ∀ t : Fin cfg2.N, win2_3.index t = ![0, 0] ∧ win2_4.index t = ![0, 0] ∧ win2_5.index t = ![0, 0]
    ∧ win2_6.index t = ![0, 0] := (by decide +kernel : ∀ t : Fin grid2.N, _)
theorem i2_o : ∀ t : Fin cfg2.N, win2_7.index t = ![(grid2.coords t 0).val, 40 + (grid2.coords t 1).val, 0]
    ∧ win2_8.index t = ![(grid2.coords t 0).val, 40 + (grid2.coords t 1).val, 0]
    ∧ win2_9.index t = ![(grid2.coords t 0).val, 40 + (grid2.coords t 1).val, 0] := (by decide +kernel : ∀ t : Fin grid2.N, _)

/-- A point's weights are the whole arrays of them. -/
theorem weigh2 (hw : Weigh A (V c main_v1) (V c main_v6) (V c main_v5) (V c main_v8)) (t : Fin cfg2.N) :
    Weigh A (blk2 V c 3 t) (blk2 V c 5 t) (blk2 V c 4 t) (blk2 V c 6 t) := by
  rw [show blk2 V c 3 t = V c main_v1 by funext y; blk_simp [blk2]; congr 1; blk_ext [(i2_w t).1],
    show blk2 V c 4 t = V c main_v5 by funext y; blk_simp [blk2]; congr 1; blk_ext [(i2_w t).2.1],
    show blk2 V c 5 t = V c main_v6 by funext y; blk_simp [blk2]; congr 1; blk_ext [(i2_w t).2.2.1],
    show blk2 V c 6 t = V c main_v8 by funext y; blk_simp [blk2]; congr 1; blk_ext [(i2_w t).2.2.2]]
  exact hw

/-- A point's three feature blocks are its tile of the map and the rows round it. -/
theorem around2 (t : Fin cfg2.N) (z : Fin 2) (hz : z.val = (grid2.coords t 0).val) : Around (T := 32) (V c main_arg2) z
    (grid2.coords t 1).val (top2 (grid2.coords t)) (bot2 (grid2.coords t)) (blk2 V c 0 t) (blk2 V c 2 t) (blk2 V c 1 t) where
  first := (by decide +kernel : ∀ t : Fin grid2.N, top2 (grid2.coords t) = 1#1 ↔ (grid2.coords t 1).val = 0) t
  last := (by decide +kernel : ∀ t : Fin grid2.N, bot2 (grid2.coords t) = 1#1 ↔ ((grid2.coords t 1).val + 1) * 32 = 64) t
  inside := (by decide +kernel : ∀ t : Fin grid2.N, ((grid2.coords t 1).val + 1) * 32 ≤ 64) t
  prev r q k hr := by
    have := point2 t
    blk_simp [blk2]; congr 1; blk_ext [i2_0] <;> omega
  next r q k hr := by
    have := point2 t
    blk_simp [blk2]; congr 1; blk_ext [i2_2] <;> omega
  ctr r p q k hr := by blk_simp [blk2]; congr 1; blk_ext [i2_1] <;> omega

theorem left2 (hw : Weigh A (V c main_v1) (V c main_v6) (V c main_v5) (V c main_v8)) :
    Left A (V c main_arg2) 245760 258048 (V c main_v11_0) (V c main_v11_1) (V c main_v11_2) ((dat2 V c).arrAt 7 cfg2.N)
      ((dat2 V c).arrAt 8 cfg2.N) ((dat2 V c).arrAt 9 cfg2.N) where
  logits := by
    refine (dat2 V c).arrAt_eq_of_coversWhere 7 _ (fun β => 40 ≤ β (1 : Fin 3) ∧ β (1 : Fin 3) < 42) (by decide +kernel)
      (fun t _ y => ?_) (fun j => (band (M := 6144) (by decide) 40 42 (j 1).val).symm)
    obtain ⟨z, hz⟩ : ∃ z : Fin 2, z.val = (grid2.coords t 0).val := ⟨⟨_, (grid2.coords t 0).isLt⟩, rfl⟩
    blk_simp
    refine cell (L_at geo2 rfl (by decide) (around2 V c t z hz) (weigh2 V c hw t) rfl) ((cfg2.win 7).xinj (cfg2.grid.coords t) y)
      (fun a => (y a).val) (fun _ => rfl) (fun _ => ?_) ?_ ?_
      <;> blk_simp [(i2_o t).1] <;> omega
  probs := by
    refine (dat2 V c).arrAt_eq_of_coversWhere 8 _ (fun β => 40 ≤ β (1 : Fin 3) ∧ β (1 : Fin 3) < 42) (by decide +kernel)
      (fun t _ y => ?_) (fun j => (band (M := 6144) (by decide) 40 42 (j 1).val).symm)
    obtain ⟨z, hz⟩ : ∃ z : Fin 2, z.val = (grid2.coords t 0).val := ⟨⟨_, (grid2.coords t 0).isLt⟩, rfl⟩
    blk_simp
    refine cell (Q_at geo2 rfl (by decide) (around2 V c t z hz) (weigh2 V c hw t) rfl) ((cfg2.win 8).xinj (cfg2.grid.coords t) y)
      (fun a => (y a).val) (fun _ => rfl) (fun _ => ?_) ?_ ?_
      <;> blk_simp [(i2_o t).2.1] <;> omega
  deltas := by
    refine (dat2 V c).arrAt_eq_of_coversWhere 9 _ (fun β => 40 ≤ β (1 : Fin 3) ∧ β (1 : Fin 3) < 42) (by decide +kernel)
      (fun t _ y => ?_) (fun j => (band (M := 6144) (by decide) 40 42 (j 1).val).symm)
    obtain ⟨z, hz⟩ : ∃ z : Fin 2, z.val = (grid2.coords t 0).val := ⟨⟨_, (grid2.coords t 0).isLt⟩, rfl⟩
    blk_simp
    refine cell (D_at geo2 rfl (by decide) (around2 V c t z hz) (weigh2 V c hw t) rfl) ((cfg2.win 9).xinj (cfg2.grid.coords t) y)
      (fun a => (y a).val) (fun _ => rfl) (fun _ => ?_) ?_ ?_
      <;> blk_simp [(i2_o t).2.2] <;> omega

/-! ## Level 3 -/

theorem point3 (t : Fin cfg3.N) : (grid3.coords t 1).val < 1 := (grid3.coords t 1).isLt
theorem i3_0 : ∀ t : Fin cfg3.N, win3_0.index t = ![(grid3.coords t 0).val, (grid3.coords t 1).val * 32 - 1, 0, 0] :=
  (by decide +kernel : ∀ t : Fin grid3.N, _)
theorem i3_1 : ∀ t : Fin cfg3.N, win3_1.index t = ![(grid3.coords t 0).val, (grid3.coords t 1).val, 0, 0] :=
  (by decide +kernel : ∀ t : Fin grid3.N, _)
theorem i3_2 : ∀ t : Fin cfg3.N,
    win3_2.index t = ![(grid3.coords t 0).val, min (((grid3.coords t 1).val + 1) * 32) (32 - 1), 0, 0] :=
  (by decide +kernel : ∀ t : Fin grid3.N, _)
theorem i3_w : ∀ t : Fin cfg3.N, win3_3.index t = ![0, 0] ∧ win3_4.index t = ![0, 0] ∧ win3_5.index t = ![0, 0]
    ∧ win3_6.index t = ![0, 0] := (by decide +kernel : ∀ t : Fin grid3.N, _)
theorem i3_o : ∀ t : Fin cfg3.N, win3_7.index t = ![(grid3.coords t 0).val, 84 + (grid3.coords t 1).val, 0]
    ∧ win3_8.index t = ![(grid3.coords t 0).val, 84 + (grid3.coords t 1).val, 0]
    ∧ win3_9.index t = ![(grid3.coords t 0).val, 84 + (grid3.coords t 1).val, 0] := (by decide +kernel : ∀ t : Fin grid3.N, _)

/-- A point's weights are the whole arrays of them. -/
theorem weigh3 (hw : Weigh A (V c main_v1) (V c main_v6) (V c main_v5) (V c main_v8)) (t : Fin cfg3.N) :
    Weigh A (blk3 V c 3 t) (blk3 V c 5 t) (blk3 V c 4 t) (blk3 V c 6 t) := by
  rw [show blk3 V c 3 t = V c main_v1 by funext y; blk_simp [blk3]; congr 1; blk_ext [(i3_w t).1],
    show blk3 V c 4 t = V c main_v5 by funext y; blk_simp [blk3]; congr 1; blk_ext [(i3_w t).2.1],
    show blk3 V c 5 t = V c main_v6 by funext y; blk_simp [blk3]; congr 1; blk_ext [(i3_w t).2.2.1],
    show blk3 V c 6 t = V c main_v8 by funext y; blk_simp [blk3]; congr 1; blk_ext [(i3_w t).2.2.2]]
  exact hw

/-- A point's three feature blocks are its tile of the map and the rows round it. -/
theorem around3 (t : Fin cfg3.N) (z : Fin 2) (hz : z.val = (grid3.coords t 0).val) : Around (T := 32) (V c main_arg3) z
    (grid3.coords t 1).val (top3 (grid3.coords t)) (bot3 (grid3.coords t)) (blk3 V c 0 t) (blk3 V c 2 t) (blk3 V c 1 t) where
  first := (by decide +kernel : ∀ t : Fin grid3.N, top3 (grid3.coords t) = 1#1 ↔ (grid3.coords t 1).val = 0) t
  last := (by decide +kernel : ∀ t : Fin grid3.N, bot3 (grid3.coords t) = 1#1 ↔ ((grid3.coords t 1).val + 1) * 32 = 32) t
  inside := (by decide +kernel : ∀ t : Fin grid3.N, ((grid3.coords t 1).val + 1) * 32 ≤ 32) t
  prev r q k hr := by
    have := point3 t
    blk_simp [blk3]; congr 1; blk_ext [i3_0] <;> omega
  next r q k hr := by
    have := point3 t
    blk_simp [blk3]; congr 1; blk_ext [i3_2] <;> omega
  ctr r p q k hr := by blk_simp [blk3]; congr 1; blk_ext [i3_1] <;> omega

theorem left3 (hw : Weigh A (V c main_v1) (V c main_v6) (V c main_v5) (V c main_v8)) :
    Left A (V c main_arg3) 258048 261120 (V c main_v12_0) (V c main_v12_1) (V c main_v12_2) ((dat3 V c).arrAt 7 cfg3.N)
      ((dat3 V c).arrAt 8 cfg3.N) ((dat3 V c).arrAt 9 cfg3.N) where
  logits := by
    refine (dat3 V c).arrAt_eq_of_coversWhere 7 _ (fun β => 84 ≤ β (1 : Fin 3) ∧ β (1 : Fin 3) < 85) (by decide +kernel)
      (fun t _ y => ?_) (fun j => (band (M := 3072) (by decide) 84 85 (j 1).val).symm)
    obtain ⟨z, hz⟩ : ∃ z : Fin 2, z.val = (grid3.coords t 0).val := ⟨⟨_, (grid3.coords t 0).isLt⟩, rfl⟩
    blk_simp
    refine cell (L_at geo3 rfl (by decide) (around3 V c t z hz) (weigh3 V c hw t) rfl) ((cfg3.win 7).xinj (cfg3.grid.coords t) y)
      (fun a => (y a).val) (fun _ => rfl) (fun _ => ?_) ?_ ?_
      <;> blk_simp [(i3_o t).1] <;> omega
  probs := by
    refine (dat3 V c).arrAt_eq_of_coversWhere 8 _ (fun β => 84 ≤ β (1 : Fin 3) ∧ β (1 : Fin 3) < 85) (by decide +kernel)
      (fun t _ y => ?_) (fun j => (band (M := 3072) (by decide) 84 85 (j 1).val).symm)
    obtain ⟨z, hz⟩ : ∃ z : Fin 2, z.val = (grid3.coords t 0).val := ⟨⟨_, (grid3.coords t 0).isLt⟩, rfl⟩
    blk_simp
    refine cell (Q_at geo3 rfl (by decide) (around3 V c t z hz) (weigh3 V c hw t) rfl) ((cfg3.win 8).xinj (cfg3.grid.coords t) y)
      (fun a => (y a).val) (fun _ => rfl) (fun _ => ?_) ?_ ?_
      <;> blk_simp [(i3_o t).2.1] <;> omega
  deltas := by
    refine (dat3 V c).arrAt_eq_of_coversWhere 9 _ (fun β => 84 ≤ β (1 : Fin 3) ∧ β (1 : Fin 3) < 85) (by decide +kernel)
      (fun t _ y => ?_) (fun j => (band (M := 3072) (by decide) 84 85 (j 1).val).symm)
    obtain ⟨z, hz⟩ : ∃ z : Fin 2, z.val = (grid3.coords t 0).val := ⟨⟨_, (grid3.coords t 0).isLt⟩, rfl⟩
    blk_simp
    refine cell (D_at geo3 rfl (by decide) (around3 V c t z hz) (weigh3 V c hw t) rfl) ((cfg3.win 9).xinj (cfg3.grid.coords t) y)
      (fun a => (y a).val) (fun _ => rfl) (fun _ => ?_) ?_ ?_
      <;> blk_simp [(i3_o t).2.2] <;> omega

/-! ## Level 4 -/

theorem point4 (t : Fin cfg4.N) : (grid4.coords t 1).val < 1 := (grid4.coords t 1).isLt
theorem i4_0 : ∀ t : Fin cfg4.N, win4_0.index t = ![(grid4.coords t 0).val, (grid4.coords t 1).val * 16 - 1, 0, 0] :=
  (by decide +kernel : ∀ t : Fin grid4.N, _)
theorem i4_1 : ∀ t : Fin cfg4.N, win4_1.index t = ![(grid4.coords t 0).val, (grid4.coords t 1).val, 0, 0] :=
  (by decide +kernel : ∀ t : Fin grid4.N, _)
theorem i4_2 : ∀ t : Fin cfg4.N,
    win4_2.index t = ![(grid4.coords t 0).val, min (((grid4.coords t 1).val + 1) * 16) (16 - 1), 0, 0] :=
  (by decide +kernel : ∀ t : Fin grid4.N, _)
theorem i4_w : ∀ t : Fin cfg4.N, win4_3.index t = ![0, 0] ∧ win4_4.index t = ![0, 0] ∧ win4_5.index t = ![0, 0]
    ∧ win4_6.index t = ![0, 0] := (by decide +kernel : ∀ t : Fin grid4.N, _)
theorem i4_o : ∀ t : Fin cfg4.N, win4_7.index t = ![(grid4.coords t 0).val, 340 + (grid4.coords t 1).val, 0]
    ∧ win4_8.index t = ![(grid4.coords t 0).val, 340 + (grid4.coords t 1).val, 0]
    ∧ win4_9.index t = ![(grid4.coords t 0).val, 340 + (grid4.coords t 1).val, 0] := (by decide +kernel : ∀ t : Fin grid4.N, _)

/-- A point's weights are the whole arrays of them. -/
theorem weigh4 (hw : Weigh A (V c main_v1) (V c main_v6) (V c main_v5) (V c main_v8)) (t : Fin cfg4.N) :
    Weigh A (blk4 V c 3 t) (blk4 V c 5 t) (blk4 V c 4 t) (blk4 V c 6 t) := by
  rw [show blk4 V c 3 t = V c main_v1 by funext y; blk_simp [blk4]; congr 1; blk_ext [(i4_w t).1],
    show blk4 V c 4 t = V c main_v5 by funext y; blk_simp [blk4]; congr 1; blk_ext [(i4_w t).2.1],
    show blk4 V c 5 t = V c main_v6 by funext y; blk_simp [blk4]; congr 1; blk_ext [(i4_w t).2.2.1],
    show blk4 V c 6 t = V c main_v8 by funext y; blk_simp [blk4]; congr 1; blk_ext [(i4_w t).2.2.2]]
  exact hw

/-- A point's three feature blocks are its tile of the map and the rows round it. -/
theorem around4 (t : Fin cfg4.N) (z : Fin 2) (hz : z.val = (grid4.coords t 0).val) : Around (T := 16) (V c main_arg4) z
    (grid4.coords t 1).val (top4 (grid4.coords t)) (bot4 (grid4.coords t)) (blk4 V c 0 t) (blk4 V c 2 t) (blk4 V c 1 t) where
  first := (by decide +kernel : ∀ t : Fin grid4.N, top4 (grid4.coords t) = 1#1 ↔ (grid4.coords t 1).val = 0) t
  last := (by decide +kernel : ∀ t : Fin grid4.N, bot4 (grid4.coords t) = 1#1 ↔ ((grid4.coords t 1).val + 1) * 16 = 16) t
  inside := (by decide +kernel : ∀ t : Fin grid4.N, ((grid4.coords t 1).val + 1) * 16 ≤ 16) t
  prev r q k hr := by
    have := point4 t
    blk_simp [blk4]; congr 1; blk_ext [i4_0] <;> omega
  next r q k hr := by
    have := point4 t
    blk_simp [blk4]; congr 1; blk_ext [i4_2] <;> omega
  ctr r p q k hr := by blk_simp [blk4]; congr 1; blk_ext [i4_1] <;> omega

theorem left4 (hw : Weigh A (V c main_v1) (V c main_v6) (V c main_v5) (V c main_v8)) :
    Left A (V c main_arg4) 261120 261888 (V c main_v13_0) (V c main_v13_1) (V c main_v13_2) ((dat4 V c).arrAt 7 cfg4.N)
      ((dat4 V c).arrAt 8 cfg4.N) ((dat4 V c).arrAt 9 cfg4.N) where
  logits := by
    refine (dat4 V c).arrAt_eq_of_coversWhere 7 _ (fun β => 340 ≤ β (1 : Fin 3) ∧ β (1 : Fin 3) < 341) (by decide +kernel)
      (fun t _ y => ?_) (fun j => (band (M := 768) (by decide) 340 341 (j 1).val).symm)
    obtain ⟨z, hz⟩ : ∃ z : Fin 2, z.val = (grid4.coords t 0).val := ⟨⟨_, (grid4.coords t 0).isLt⟩, rfl⟩
    blk_simp
    refine cell (L_at geo4 rfl (by decide) (around4 V c t z hz) (weigh4 V c hw t) rfl) ((cfg4.win 7).xinj (cfg4.grid.coords t) y)
      (fun a => (y a).val) (fun _ => rfl) (fun _ => ?_) ?_ ?_
      <;> blk_simp [(i4_o t).1] <;> omega
  probs := by
    refine (dat4 V c).arrAt_eq_of_coversWhere 8 _ (fun β => 340 ≤ β (1 : Fin 3) ∧ β (1 : Fin 3) < 341) (by decide +kernel)
      (fun t _ y => ?_) (fun j => (band (M := 768) (by decide) 340 341 (j 1).val).symm)
    obtain ⟨z, hz⟩ : ∃ z : Fin 2, z.val = (grid4.coords t 0).val := ⟨⟨_, (grid4.coords t 0).isLt⟩, rfl⟩
    blk_simp
    refine cell (Q_at geo4 rfl (by decide) (around4 V c t z hz) (weigh4 V c hw t) rfl) ((cfg4.win 8).xinj (cfg4.grid.coords t) y)
      (fun a => (y a).val) (fun _ => rfl) (fun _ => ?_) ?_ ?_
      <;> blk_simp [(i4_o t).2.1] <;> omega
  deltas := by
    refine (dat4 V c).arrAt_eq_of_coversWhere 9 _ (fun β => 340 ≤ β (1 : Fin 3) ∧ β (1 : Fin 3) < 341) (by decide +kernel)
      (fun t _ y => ?_) (fun j => (band (M := 768) (by decide) 340 341 (j 1).val).symm)
    obtain ⟨z, hz⟩ : ∃ z : Fin 2, z.val = (grid4.coords t 0).val := ⟨⟨_, (grid4.coords t 0).isLt⟩, rfl⟩
    blk_simp
    refine cell (D_at geo4 rfl (by decide) (around4 V c t z hz) (weigh4 V c hw t) rfl) ((cfg4.win 9).xinj (cfg4.grid.coords t) y)
      (fun a => (y a).val) (fun _ => rfl) (fun _ => ?_) ?_ ?_
      <;> blk_simp [(i4_o t).2.2] <;> omega

end Cert.KernelIdeal.Gen

end
-- ==== Proof.KI.Whole.lean ====
/- What the whole program leaves in its three results, in the arguments' own terms. -/
module

public import proofs.«01_k».proof.Proof.KI.Run
public import proofs.«01_k».proof.Proof.KI.Value
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Cert.Rpn

/-- The weights among the contents `W`. -/
def argsOf (W : Valuation τ sig (Elt Ideal)) : Args where
  ker := W (Proc.devRef .tc main_arg5)
  bias := W (Proc.devRef .tc main_arg6)
  wl := W (Proc.devRef .tc main_arg7)
  bl := W (Proc.devRef .tc main_arg8)
  wd := W (Proc.devRef .tc main_arg9)
  bd := W (Proc.devRef .tc main_arg10)

section
variable (W : Valuation τ sig (Elt Ideal))

/-- What the first stretch leaves in the four weight buffers. -/
theorem prep_ker : StableHlo.after hostOps0 W (Proc.devRef .tc main_v1)
    = shapeCast S2304x512 (truncf (F := Ideal) .bf16 (W (Proc.devRef .tc main_arg5)) bitsLt_bf16_f32) shapeCasts_S3x3x256x512_S2304x512 := by
  after_results
  rfl
theorem prep_bias : StableHlo.after hostOps0 W (Proc.devRef .tc main_v6) = shapeCast S1x512 (W (Proc.devRef .tc main_arg6)) shapeCasts_S512_S1x512 := by
  after_results
  rfl
theorem prep_heads : StableHlo.after hostOps0 W (Proc.devRef .tc main_v5)
    = truncf (F := Ideal) .bf16 (concatenate S512x18 1 [⟨S512x6, shapeCast S512x6 (W (Proc.devRef .tc main_arg7)) shapeCasts_S1x1x512x6_S512x6⟩,
        ⟨S512x12, shapeCast S512x12 (W (Proc.devRef .tc main_arg9)) shapeCasts_S1x1x512x12_S512x12⟩] concatenates_S512x6_S512x12_S512x18_d1) bitsLt_bf16_f32 := by
  after_results
  rfl
theorem prep_biases : StableHlo.after hostOps0 W (Proc.devRef .tc main_v8)
    = shapeCast S1x18 (concatenate S18 0 [⟨S6, W (Proc.devRef .tc main_arg8)⟩, ⟨S12, W (Proc.devRef .tc main_arg10)⟩] concatenates_S6_S12_S18_d0)
        shapeCasts_S18_S1x18 := by
  after_results
  rfl

theorem weights : Weigh (argsOf W) (StableHlo.after hostOps0 W (Proc.devRef .tc main_v1)) (StableHlo.after hostOps0 W (Proc.devRef .tc main_v6))
    (StableHlo.after hostOps0 W (Proc.devRef .tc main_v5)) (StableHlo.after hostOps0 W (Proc.devRef .tc main_v8)) where
  ker t k o i hi := by
    rw [prep_ker]
    refine shapeCast_apply _ _ _ (ix4 (⟨t.val / 3, by omega⟩ : Fin 3) (⟨t.val % 3, by omega⟩ : Fin 3) k o) ?_
    rw [rowMajor_val2 _ 512 rfl, rowMajor_val4 _ (3 * (256 * 512)) (256 * 512) 512 rfl rfl rfl]
    show t.val / 3 * (3 * (256 * 512)) + t.val % 3 * (256 * 512) + k.val * 512 + o.val = i.val * 512 + o.val
    omega
  bias o := by rw [prep_bias]; pointwise; rfl
  wl o j := by rw [prep_heads]; pointwise; rfl
  bl j := by rw [prep_biases]; pointwise; rfl
  wd o j := by rw [prep_heads]; pointwise; rfl
  bd j := by rw [prep_biases]; pointwise; rfl
end

variable (m : (ℓ : Loc nD τ sig) → Buf (Elt Ideal) ℓ) (ρ : Dev nD → PrngReg) (c : Dev nD)

theorem weights_kept : ∀ r ∈ [main_v1, main_v5, main_v6, main_v8], Kept r := ListAll.forall_mem_of_all_decide (by decide +kernel)

/-- Every launch finds the weights there; -/
theorem weights_at (V : Held Ideal) (hV : ∀ r, Kept r → V c r = W1 m ρ c (Proc.devRef .tc r)) :
    Weigh (argsOf (W0 m ρ c)) (V c main_v1) (V c main_v6) (V c main_v5) (V c main_v8) := by
  rw [hV _ (weights_kept main_v1 (by decide)), hV _ (weights_kept main_v6 (by decide)), hV _ (weights_kept main_v5 (by decide)),
    hV _ (weights_kept main_v8 (by decide))]
  exact weights (W0 m ρ c)

/-- and its feature map as launched. -/
theorem map_at (V : Held Ideal) (hV : ∀ r, Kept r → V c r = W1 m ρ c (Proc.devRef .tc r)) (a : Ref sig .tc) (h : a ∈ argRefs) :
    V c a = W0 m ρ c (Proc.devRef .tc a) := (hV a (args_kept a h).2).trans (W1_of m ρ c a (args_kept a h).1)

/-! The copies between launches change nothing. -/

theorem copy1 (W : Valuation τ sig (Elt Ideal)) : StableHlo.after hostOps1 W (Proc.devRef .tc main_v10_0) = W (Proc.devRef .tc main_v9_0)
    ∧ StableHlo.after hostOps1 W (Proc.devRef .tc main_v10_1) = W (Proc.devRef .tc main_v9_1)
    ∧ StableHlo.after hostOps1 W (Proc.devRef .tc main_v10_2) = W (Proc.devRef .tc main_v9_2) := by
  refine ⟨?_, ?_, ?_⟩ <;> after_results <;> rfl
theorem copy2 (W : Valuation τ sig (Elt Ideal)) : StableHlo.after hostOps2 W (Proc.devRef .tc main_v11_0) = W (Proc.devRef .tc main_v10_0)
    ∧ StableHlo.after hostOps2 W (Proc.devRef .tc main_v11_1) = W (Proc.devRef .tc main_v10_1)
    ∧ StableHlo.after hostOps2 W (Proc.devRef .tc main_v11_2) = W (Proc.devRef .tc main_v10_2) := by
  refine ⟨?_, ?_, ?_⟩ <;> after_results <;> rfl
theorem copy3 (W : Valuation τ sig (Elt Ideal)) : StableHlo.after hostOps3 W (Proc.devRef .tc main_v12_0) = W (Proc.devRef .tc main_v11_0)
    ∧ StableHlo.after hostOps3 W (Proc.devRef .tc main_v12_1) = W (Proc.devRef .tc main_v11_1)
    ∧ StableHlo.after hostOps3 W (Proc.devRef .tc main_v12_2) = W (Proc.devRef .tc main_v11_2) := by
  refine ⟨?_, ?_, ?_⟩ <;> after_results <;> rfl
theorem copy4 (W : Valuation τ sig (Elt Ideal)) : StableHlo.after hostOps4 W (Proc.devRef .tc main_v13_0) = W (Proc.devRef .tc main_v12_0)
    ∧ StableHlo.after hostOps4 W (Proc.devRef .tc main_v13_1) = W (Proc.devRef .tc main_v12_1)
    ∧ StableHlo.after hostOps4 W (Proc.devRef .tc main_v13_2) = W (Proc.devRef .tc main_v12_2) := by
  refine ⟨?_, ?_, ?_⟩ <;> after_results <;> rfl

/-- A launch's three outputs read after it, with what it found read before the copies. -/
theorem Left.along {H : ℕ} {A : Args} {x x' : (Maps H).Idx → EReal} {lo hi : ℕ} {l₀ q₀ l₀' q₀' l q l' q' : FVec Ideal (All 2) .f32}
    {d₀ d₀' d d' : FVec Ideal (All 4) .f32} (h : Left A x lo hi l₀ q₀ d₀ l q d) (hx : x = x')
    (h₀ : l₀ = l₀' ∧ q₀ = q₀' ∧ d₀ = d₀') (hl : l' = l) (hq : q' = q) (hd : d' = d) : Left A x' lo hi l₀' q₀' d₀' l' q' d' := by
  obtain ⟨rfl, rfl, rfl⟩ := h₀
  subst hx hl hq hd
  exact h

theorem after0 : Left (argsOf (W0 m ρ c)) (W0 m ρ c (Proc.devRef .tc main_arg0)) 0 196608 (W1 m ρ c (Proc.devRef .tc main_v9_0)) (W1 m ρ c (Proc.devRef .tc main_v9_1))
    (W1 m ρ c (Proc.devRef .tc main_v9_2)) (W2 m ρ c (Proc.devRef .tc main_v9_0)) (W2 m ρ c (Proc.devRef .tc main_v9_1)) (W2 m ρ c (Proc.devRef .tc main_v9_2)) :=
  have hV : ∀ r, Kept r → V1 m ρ c r = W1 m ρ c (Proc.devRef .tc r) := fun _ _ => rfl
  (left0 (V1 m ρ) c (weights_at m ρ c (V1 m ρ) hV)).along (map_at m ρ c (V1 m ρ) hV main_arg0 (by decide)) ⟨rfl, rfl, rfl⟩
    (leave_arr launch₀0.sharedIn (A_eq0 (V1 m ρ)) c 7) (leave_arr launch₀0.sharedIn (A_eq0 (V1 m ρ)) c 8) (leave_arr launch₀0.sharedIn (A_eq0 (V1 m ρ)) c 9)
theorem after1 : Left (argsOf (W0 m ρ c)) (W0 m ρ c (Proc.devRef .tc main_arg1)) 196608 245760 (W2 m ρ c (Proc.devRef .tc main_v9_0)) (W2 m ρ c (Proc.devRef .tc main_v9_1))
    (W2 m ρ c (Proc.devRef .tc main_v9_2)) (W4 m ρ c (Proc.devRef .tc main_v10_0)) (W4 m ρ c (Proc.devRef .tc main_v10_1)) (W4 m ρ c (Proc.devRef .tc main_v10_2)) :=
  have hV := W3_kept m ρ c
  (left1 (V3 m ρ) c (weights_at m ρ c (V3 m ρ) hV)).along (map_at m ρ c (V3 m ρ) hV main_arg1 (by decide)) (copy1 (W2 m ρ c))
    (leave_arr launch₀1.sharedIn (A_eq1 (V3 m ρ)) c 7) (leave_arr launch₀1.sharedIn (A_eq1 (V3 m ρ)) c 8) (leave_arr launch₀1.sharedIn (A_eq1 (V3 m ρ)) c 9)
theorem after2 : Left (argsOf (W0 m ρ c)) (W0 m ρ c (Proc.devRef .tc main_arg2)) 245760 258048 (W4 m ρ c (Proc.devRef .tc main_v10_0)) (W4 m ρ c (Proc.devRef .tc main_v10_1))
    (W4 m ρ c (Proc.devRef .tc main_v10_2)) (W6 m ρ c (Proc.devRef .tc main_v11_0)) (W6 m ρ c (Proc.devRef .tc main_v11_1)) (W6 m ρ c (Proc.devRef .tc main_v11_2)) :=
  have hV := W5_kept m ρ c
  (left2 (V5 m ρ) c (weights_at m ρ c (V5 m ρ) hV)).along (map_at m ρ c (V5 m ρ) hV main_arg2 (by decide)) (copy2 (W4 m ρ c))
    (leave_arr launch₀2.sharedIn (A_eq2 (V5 m ρ)) c 7) (leave_arr launch₀2.sharedIn (A_eq2 (V5 m ρ)) c 8) (leave_arr launch₀2.sharedIn (A_eq2 (V5 m ρ)) c 9)
theorem after3 : Left (argsOf (W0 m ρ c)) (W0 m ρ c (Proc.devRef .tc main_arg3)) 258048 261120 (W6 m ρ c (Proc.devRef .tc main_v11_0)) (W6 m ρ c (Proc.devRef .tc main_v11_1))
    (W6 m ρ c (Proc.devRef .tc main_v11_2)) (W8 m ρ c (Proc.devRef .tc main_v12_0)) (W8 m ρ c (Proc.devRef .tc main_v12_1)) (W8 m ρ c (Proc.devRef .tc main_v12_2)) :=
  have hV := W7_kept m ρ c
  (left3 (V7 m ρ) c (weights_at m ρ c (V7 m ρ) hV)).along (map_at m ρ c (V7 m ρ) hV main_arg3 (by decide)) (copy3 (W6 m ρ c))
    (leave_arr launch₀3.sharedIn (A_eq3 (V7 m ρ)) c 7) (leave_arr launch₀3.sharedIn (A_eq3 (V7 m ρ)) c 8) (leave_arr launch₀3.sharedIn (A_eq3 (V7 m ρ)) c 9)
theorem after4 : Left (argsOf (W0 m ρ c)) (W0 m ρ c (Proc.devRef .tc main_arg4)) 261120 261888 (W8 m ρ c (Proc.devRef .tc main_v12_0)) (W8 m ρ c (Proc.devRef .tc main_v12_1))
    (W8 m ρ c (Proc.devRef .tc main_v12_2)) (W10 m ρ c (Proc.devRef .tc main_v13_0)) (W10 m ρ c (Proc.devRef .tc main_v13_1)) (W10 m ρ c (Proc.devRef .tc main_v13_2)) :=
  have hV := W9_kept m ρ c
  (left4 (V9 m ρ) c (weights_at m ρ c (V9 m ρ) hV)).along (map_at m ρ c (V9 m ρ) hV main_arg4 (by decide)) (copy4 (W8 m ρ c))
    (leave_arr launch₀4.sharedIn (A_eq4 (V9 m ρ)) c 7) (leave_arr launch₀4.sharedIn (A_eq4 (V9 m ρ)) c 8) (leave_arr launch₀4.sharedIn (A_eq4 (V9 m ρ)) c 9)

/-- The five levels' rows one after another. -/
theorem rows_all {n : ℕ} (g0 g1 g2 g3 g4 : Fin 2 → ℕ → Fin n → EReal) (z : FVec Ideal (All n) .f32) :
    rows 261120 261888 g4 (rows 258048 261120 g3 (rows 245760 258048 g2 (rows 196608 245760 g1 (rows 0 196608 g0 z))))
      = stacked g0 g1 g2 g3 g4 := by
  funext i
  have : (i 1).val < 261888 := (i 1).isLt
  unfold stacked rows
  dsimp only
  split_ifs <;> first | rfl | omega

/-- The feature maps among the contents `W`. -/
def featsOf (W : Valuation τ sig (Elt Ideal)) : Feats where
  x0 := W (Proc.devRef .tc main_arg0)
  x1 := W (Proc.devRef .tc main_arg1)
  x2 := W (Proc.devRef .tc main_arg2)
  x3 := W (Proc.devRef .tc main_arg3)
  x4 := W (Proc.devRef .tc main_arg4)

theorem logits_end : W10 m ρ c (Proc.devRef .tc main_v13_0) = (argsOf (W0 m ρ c)).logits (featsOf (W0 m ρ c)) := by
  rw [(after4 m ρ c).logits, (after3 m ρ c).logits, (after2 m ρ c).logits, (after1 m ρ c).logits, (after0 m ρ c).logits]
  exact rows_all _ _ _ _ _ _
theorem probs_end : W10 m ρ c (Proc.devRef .tc main_v13_1) = (argsOf (W0 m ρ c)).probs (featsOf (W0 m ρ c)) := by
  rw [(after4 m ρ c).probs, (after3 m ρ c).probs, (after2 m ρ c).probs, (after1 m ρ c).probs, (after0 m ρ c).probs]
  exact rows_all _ _ _ _ _ _
theorem deltas_end : W10 m ρ c (Proc.devRef .tc main_v13_2) = (argsOf (W0 m ρ c)).deltas (featsOf (W0 m ρ c)) := by
  rw [(after4 m ρ c).deltas, (after3 m ρ c).deltas, (after2 m ρ c).deltas, (after1 m ρ c).deltas, (after0 m ρ c).deltas]
  exact rows_all _ _ _ _ _ _

end Cert.KernelIdeal.Gen

end
-- ==== Proof.RI.Level.lean ====
/- One level of the reference, at any size of feature map, and what its results hold. -/
module

public import proofs.«01_k».proof.Proof.Spec
public import Idealize.ShloMosaic.Lib.IdealHost

@[expose] public section

noncomputable section

namespace Cert.Rpn

open Idealize.ShloMosaic Idealize.SL.Sem

abbrev Px (H n : ℕ) : Shape := ⟨4, ![2, H, H, n]⟩
abbrev Padded (H : ℕ) : Shape := ⟨4, ![2, H + 2, H + 2, 256]⟩
abbrev Sheet (R n : ℕ) : Shape := ⟨3, ![2, R, n]⟩
abbrev Sq (m n : ℕ) : Shape := ⟨2, ![m, n]⟩
abbrev Vc (n : ℕ) : Shape := ⟨1, ![n]⟩
abbrev Taps : Shape := ⟨4, ![3, 3, 256, 512]⟩
abbrev Tap : Shape := ⟨4, ![1, 1, 256, 512]⟩
abbrev One (n : ℕ) : Shape := ⟨4, ![1, 1, 1, n]⟩
abbrev Sc : Shape := ⟨0, ![]⟩

/-- Each position's channels times a matrix. -/
abbrev chan {H m n : ℕ} (h : DotDims.WF (Px H m) (Sq m n) (Px H n) [3] [0] [0, 1, 2] [1] [] []) : DotDims (Px H m) (Sq m n) (Px H n) where
  lhsContracting := [3]
  rhsContracting := [0]
  lhsNonContracting := [0, 1, 2]
  rhsNonContracting := [1]
  lhsBatch := []
  rhsBatch := []
  wf := h

variable {H R : ℕ}

/-- It is the sum over the channels. -/
theorem chan_apply {m n : ℕ} (h : DotDims.WF (Px H m) (Sq m n) (Px H n) [3] [0] [0, 1, 2] [1] [] []) (x : FVec Ideal (Px H m) .f32)
    (w : FVec Ideal (Sq m n) .f32) (b : Fin 2) (r c : Fin H) (o : Fin n) :
    Host.dotGeneral (chan h) none x w (ix4 b r c o) = ∑ k : Fin m, (x (ix4 b r c k) * w (ix2 k o) : EReal) := by
  show Ideal.matmul (chan h) x w (fun _ => 0) (ix4 b r c o) = _
  rw [Ideal.matmul_apply₁_of (chan h) (a := 3) rfl (K := m) rfl (L := fun k => ix4 b r c k) (R := fun k => ix2 k o)]
  · exact zero_add _
  · intro k; funext a; fin_cases a <;> rfl
  · intro k; funext a; fin_cases a <;> rfl

/-- The padded map is `pix`. -/
theorem pad_at (h : (Maps H).Pads (![0, 1, 1, 0] : Fin 4 → Nat) ![0, 1, 1, 0] ![0, 0, 0, 0] (Padded H)) (hu : 0 < Sc.numel)
   (x : FVec Ideal (Maps H) .f32) (b : Fin 2) (r c : Fin (H + 2)) (k : Fin 256) :
   pad (Padded H) ![0, 1, 1, 0] ![0, 1, 1, 0] ![0, 0, 0, 0] x (sitofp (F := Ideal) .f32 (constantI Sc 32 0#32)) h hu (ix4 b r c k) = pix x b r c k := by
  pointwise
  unfold pix
  rw [show (FloatOps.sitofp (F := Ideal) FTy.f32 0#32 : EReal) = 0 by simp [FloatOps.sitofp]]
  split_ifs <;> first | rfl | omega

/-- A bias spread over the positions. -/
theorem bias_at {n : ℕ} (hn : n ≠ 1) (h1 : (Vc n).BroadcastsInDim (One n) (![3] : Fin 1 → Fin (One n).rank)) (h2 : (One n).BroadcastsInDim (Px H n) (![0, 1, 2, 3] : Fin 4 → Fin (Px H n).rank))
    (v : FVec Ideal (Vc n) .f32) (b : Fin 2) (r c : Fin H) (o : Fin n) : broadcastInDim (Px H n) ![0, 1, 2, 3] h2 (broadcastInDim (One n) ![3] h1 v) (ix4 b r c o) = v (ix1 o) := by
  pointwise
  exact congrArg (fun k => v (ix1 k)) ((dif_neg hn).trans (dif_neg hn))

/-- One tap cut out of the kernel. -/
theorem tap_at (o : Fin 4 → ℕ) (dy dx : Fin 3) (ho : o = ![dy.val, dx.val, 0, 0]) (h1 : Taps.Slices o Tap) (h2 : Tap.ShapeCasts (Sq 256 512))
   (w : FVec Ideal Taps .f32) (k : Fin 256) (c : Fin 512) : shapeCast (Sq 256 512) (extractStridedSlice Tap o w h1) h2 (ix2 k c) = w (ix4 dy dx k c) := by
  subst ho
  pointwise

/-- The larger of a pair, -/
theorem top_at (h : (Sheet R 2).ReducesTo [2] (Sq 2 R)) (hu : 0 < Sc.numel) (x : FVec Ideal (Sheet R 2) .f32) (b : Fin 2) (r : Fin R) :
   Host.reduce FloatOps.maximumf x (constant (F := Ideal) Sc .f32 0xFF800000#32) h hu (ix2 b r) = max (x (ix3 b r 0) : EReal) (x (ix3 b r 1)) := by
  pointwise
  rw [show (Finset.univ : Finset (Fin 2)) = {0, 1} from rfl, Finset.fold_insert (by decide), Finset.fold_singleton,
    show Ideal.ofBits FTy.f32 4286578688#32 = (⊥ : EReal) by simp [Ideal.ofBits, Ideal.ieee], max_bot_right]

/-- the sum of a pair, -/
theorem sum_at (h : (Sheet R 2).ReducesTo [2] (Sq 2 R)) (hu : 0 < Sc.numel) (x : FVec Ideal (Sheet R 2) .f32) (b : Fin 2) (r : Fin R) :
   Host.reduceAdd x (constant (F := Ideal) Sc .f32 0x00000000#32) h hu (ix2 b r) = (x (ix3 b r 0) : EReal) + (x (ix3 b r 1)) := by
  pointwise
  exact Fin.sum_univ_two _

/-- and such a value spread over the pair again. -/
theorem spread_at (hR : R ≠ 1) (h1 : (Sq 2 R).BroadcastsInDim (Sheet R 1) (![0, 1] : Fin 2 → Fin (Sheet R 1).rank)) (h2 : (Sheet R 1).BroadcastsInDim (Sheet R 2) (![0, 1, 2] : Fin 3 → Fin (Sheet R 2).rank))
  (x : FVec Ideal (Sq 2 R) .f32) (b : Fin 2) (r : Fin R) (l : Fin 2) : broadcastInDim (Sheet R 2) ![0, 1, 2] h2 (broadcastInDim (Sheet R 1) ![0, 1] h1 x) (ix3 b r l) = x (ix2 b r) := by
  pointwise
  exact congrArg (fun k => x (ix2 b k)) ((dif_neg hR).trans (dif_neg hR))

/-- The matrix of a one-by-one convolution, without its two unit axes. -/
theorem mat_at {n : ℕ} (h : (⟨4, ![1, 1, 512, n]⟩ : Shape).ShapeCasts (Sq 512 n)) (w : FVec Ideal ⟨4, ![1, 1, 512, n]⟩ .f32) (o : Fin 512)
    (j : Fin n) : shapeCast (Sq 512 n) w h (ix2 o j) = w (ix4 (0 : Fin 1) (0 : Fin 1) o j) :=
  shapeCast_apply _ _ _ _ (by
    rw [rowMajor_val2 _ n rfl, rowMajor_val4 _ (1 * (512 * n)) (512 * n) n rfl rfl rfl]
    simp)

/-! ## The level -/

/-- The shape facts of a level with R = 3 H H anchors. -/
structure RefGeo (H R : ℕ) : Prop where
  pos : 0 < Sc.numel
  pads : (Maps H).Pads (![0, 1, 1, 0] : Fin 4 → Nat) ![0, 1, 1, 0] ![0, 0, 0, 0] (Padded H)
  s00 : (Padded H).Slices ![0, 0, 0, 0] (Maps H)
  s01 : (Padded H).Slices ![0, 0, 1, 0] (Maps H)
  s02 : (Padded H).Slices ![0, 0, 2, 0] (Maps H)
  s10 : (Padded H).Slices ![0, 1, 0, 0] (Maps H)
  s11 : (Padded H).Slices ![0, 1, 1, 0] (Maps H)
  s12 : (Padded H).Slices ![0, 1, 2, 0] (Maps H)
  s20 : (Padded H).Slices ![0, 2, 0, 0] (Maps H)
  s21 : (Padded H).Slices ![0, 2, 1, 0] (Maps H)
  s22 : (Padded H).Slices ![0, 2, 2, 0] (Maps H)
  t00 : Taps.Slices ![0, 0, 0, 0] Tap
  t01 : Taps.Slices ![0, 1, 0, 0] Tap
  t02 : Taps.Slices ![0, 2, 0, 0] Tap
  t10 : Taps.Slices ![1, 0, 0, 0] Tap
  t11 : Taps.Slices ![1, 1, 0, 0] Tap
  t12 : Taps.Slices ![1, 2, 0, 0] Tap
  t20 : Taps.Slices ![2, 0, 0, 0] Tap
  t21 : Taps.Slices ![2, 1, 0, 0] Tap
  t22 : Taps.Slices ![2, 2, 0, 0] Tap
  tap : Tap.ShapeCasts (Sq 256 512)
  dconv : DotDims.WF (Px H 256) (Sq 256 512) (Px H 512) [3] [0] [0, 1, 2] [1] [] []
  dl : DotDims.WF (Px H 512) (Sq 512 6) (Px H 6) [3] [0] [0, 1, 2] [1] [] []
  dd : DotDims.WF (Px H 512) (Sq 512 12) (Px H 12) [3] [0] [0, 1, 2] [1] [] []
  c1 : (Vc 512).BroadcastsInDim (One 512) (![3] : Fin 1 → Fin (One 512).rank)
  c2 : (One 512).BroadcastsInDim (Px H 512) (![0, 1, 2, 3] : Fin 4 → Fin (Px H 512).rank)
  zero : Sc.BroadcastsInDim (Px H 512) (![] : Fin 0 → Fin (Px H 512).rank)
  ml : (⟨4, ![1, 1, 512, 6]⟩ : Shape).ShapeCasts (Sq 512 6)
  md : (⟨4, ![1, 1, 512, 12]⟩ : Shape).ShapeCasts (Sq 512 12)
  l1 : (Vc 6).BroadcastsInDim (One 6) (![3] : Fin 1 → Fin (One 6).rank)
  l2 : (One 6).BroadcastsInDim (Px H 6) (![0, 1, 2, 3] : Fin 4 → Fin (Px H 6).rank)
  d1 : (Vc 12).BroadcastsInDim (One 12) (![3] : Fin 1 → Fin (One 12).rank)
  d2 : (One 12).BroadcastsInDim (Px H 12) (![0, 1, 2, 3] : Fin 4 → Fin (Px H 12).rank)
  fl : (Px H 6).ShapeCasts (Sheet R 2)
  fd : (Px H 12).ShapeCasts (Sheet R 4)
  red : (Sheet R 2).ReducesTo [2] (Sq 2 R)
  low : Sc.BroadcastsInDim (Sq 2 R) (![] : Fin 0 → Fin (Sq 2 R).rank)
  up1 : (Sq 2 R).BroadcastsInDim (Sheet R 1) (![0, 1] : Fin 2 → Fin (Sheet R 1).rank)
  up2 : (Sheet R 1).BroadcastsInDim (Sheet R 2) (![0, 1, 2] : Fin 3 → Fin (Sheet R 2).rank)

variable (g : RefGeo H R) (A : Args) (x : (Maps H).Idx → EReal)

/-- The zero-padded feature map. -/
def refPad : FVec Ideal (Padded H) .f32 :=
  pad (Padded H) ![0, 1, 1, 0] ![0, 1, 1, 0] ![0, 0, 0, 0] x (sitofp (F := Ideal) .f32 (constantI Sc 32 0#32)) g.pads g.pos

/-- One tap of the convolution. -/
abbrev refTap (o : Fin 4 → ℕ) (hs : (Padded H).Slices o (Maps H)) (q : Fin 4 → ℕ) (ht : Taps.Slices q Tap) : FVec Ideal (Px H 512) .f32 :=
  Host.dotGeneral (F := Ideal) (φ₁ := .f32) (φ₂ := .f32) (chan g.dconv) none (extractStridedSlice (Maps H) o (refPad g x) hs)
    (shapeCast (Sq 256 512) (extractStridedSlice Tap q A.ker ht) g.tap)

/-- The shared features. -/
def refShared : FVec Ideal (Px H 512) .f32 :=
  maximumf (addf (addf (addf (addf (addf (addf (addf (addf (addf (refTap g A x ![0, 0, 0, 0] g.s00 ![0, 0, 0, 0] g.t00)
    (refTap g A x ![0, 0, 1, 0] g.s01 ![0, 1, 0, 0] g.t01)) (refTap g A x ![0, 0, 2, 0] g.s02 ![0, 2, 0, 0] g.t02))
    (refTap g A x ![0, 1, 0, 0] g.s10 ![1, 0, 0, 0] g.t10)) (refTap g A x ![0, 1, 1, 0] g.s11 ![1, 1, 0, 0] g.t11))
    (refTap g A x ![0, 1, 2, 0] g.s12 ![1, 2, 0, 0] g.t12)) (refTap g A x ![0, 2, 0, 0] g.s20 ![2, 0, 0, 0] g.t20))
    (refTap g A x ![0, 2, 1, 0] g.s21 ![2, 1, 0, 0] g.t21)) (refTap g A x ![0, 2, 2, 0] g.s22 ![2, 2, 0, 0] g.t22))
    (broadcastInDim (Px H 512) ![0, 1, 2, 3] g.c2 (broadcastInDim (One 512) ![3] g.c1 A.bias)))
    (broadcastInDim (Px H 512) ![] g.zero (constant (F := Ideal) Sc .f32 0x00000000#32))

/-- The two heads of the features `s`. -/
def refHead6 (s : FVec Ideal (Px H 512) .f32) : FVec Ideal (Sheet R 2) .f32 :=
  shapeCast (Sheet R 2) (addf (F := Ideal) (φ := .f32) (Host.dotGeneral (F := Ideal) (φ₂ := .f32) (chan g.dl) none s (shapeCast (Sq 512 6) A.wl g.ml))
    (broadcastInDim (Px H 6) ![0, 1, 2, 3] g.l2 (broadcastInDim (One 6) ![3] g.l1 A.bl))) g.fl
def refHead12 (s : FVec Ideal (Px H 512) .f32) : FVec Ideal (Sheet R 4) .f32 :=
  shapeCast (Sheet R 4) (addf (F := Ideal) (φ := .f32) (Host.dotGeneral (F := Ideal) (φ₂ := .f32) (chan g.dd) none s (shapeCast (Sq 512 12) A.wd g.md))
    (broadcastInDim (Px H 12) ![0, 1, 2, 3] g.d2 (broadcastInDim (One 12) ![3] g.d1 A.bd))) g.fd
abbrev refLogits : FVec Ideal (Sheet R 2) .f32 := refHead6 g A (refShared g A x)
abbrev refDeltas : FVec Ideal (Sheet R 4) .f32 := refHead12 g A (refShared g A x)

/-- The exponentials under the softmax of the logits `l`. -/
def refExp (l : FVec Ideal (Sheet R 2) .f32) : FVec Ideal (Sheet R 2) .f32 :=
  Host.exp (subf l (broadcastInDim (Sheet R 2) ![0, 1, 2] g.up2 (broadcastInDim (Sheet R 1) ![0, 1] g.up1
    (maximumf (broadcastInDim (Sq 2 R) ![] g.low (constant (F := Ideal) Sc .f32 0xFF800000#32))
      (Host.reduce FloatOps.maximumf l (constant (F := Ideal) Sc .f32 0xFF800000#32) g.red g.pos)))))

def refProbs (e : FVec Ideal (Sheet R 2) .f32) : FVec Ideal (Sheet R 2) .f32 :=
  Host.divf e (broadcastInDim (Sheet R 2) ![0, 1, 2] g.up2 (broadcastInDim (Sheet R 1) ![0, 1] g.up1
    (Host.reduceAdd e (constant (F := Ideal) Sc .f32 0x00000000#32) g.red g.pos)))

/-- Tap t adds the pixels shifted by (t / 3, t % 3) times the kernel's tap t. -/
theorem refTap_at (t : Fin 9) (o : Fin 4 → ℕ) (hs) (q : Fin 4 → ℕ) (ht) (ho : o = ![0, t.val / 3, t.val % 3, 0])
    (hq : q = ![t.val / 3, t.val % 3, 0, 0]) (b : Fin 2) (r c : Fin H) (k : Fin 512) :
    refTap g A x o hs q ht (ix4 b r c k) = (∑ i : Fin 256, pix x b (r + t.val / 3) (c + t.val % 3) i * A.K t i k : EReal) := by
  have ht9 := t.isLt
  subst ho
  refine (chan_apply g.dconv _ _ b r c k).trans (Finset.sum_congr rfl fun i _ => ?_)
  rw [tap_at q (⟨t.val / 3, by omega⟩ : Fin 3) (⟨t.val % 3, by omega⟩ : Fin 3) hq ht g.tap]
  refine congrArg (fun z : EReal => z * A.K t i k) ?_
  refine (extractStridedSlice_apply _ _ _ _ (ix4 b (⟨r + t.val / 3, by omega⟩ : Fin (H + 2)) (⟨c + t.val % 3, by omega⟩ : Fin (H + 2)) i) fun d => ?_).trans (pad_at g.pads g.pos x b _ _ i)
  fin_cases d
  · show b.val = 0 + b.val; omega
  · show r.val + t.val / 3 = t.val / 3 + r.val; omega
  · show c.val + t.val % 3 = t.val % 3 + c.val; omega
  · show i.val = 0 + i.val; omega

/-- The shared features are those of the specification. -/
theorem refShared_at (b : Fin 2) (r c : Fin H) (k : Fin 512) : refShared g A x (ix4 b r c k) = feat (pix x b) A.K A.B r c k := by
  have e : ∀ t : Fin 9, ∀ o hs q ht ho hq, refTap g A x o hs q ht (ix4 b r c k) = _ := fun t o hs q ht ho hq => refTap_at g A x t o hs q ht ho hq b r c k
  unfold refShared feat
  rw [Fin.sum_univ_castSucc, Fin.sum_univ_eight]
  refine congrArg₂ max (congrArg₂ (· + ·) ?_ (bias_at (by decide) g.c1 g.c2 A.bias b r c k)) (by pointwise)
  exact congrArg₂ (· + ·) (congrArg₂ (· + ·) (congrArg₂ (· + ·) (congrArg₂ (· + ·) (congrArg₂ (· + ·) (congrArg₂ (· + ·)
    (congrArg₂ (· + ·) (congrArg₂ (· + ·) (e 0 _ _ _ _ rfl rfl) (e 1 _ _ _ _ rfl rfl)) (e 2 _ _ _ _ rfl rfl)) (e 3 _ _ _ _ rfl rfl))
    (e 4 _ _ _ _ rfl rfl)) (e 5 _ _ _ _ rfl rfl)) (e 6 _ _ _ _ rfl rfl)) (e 7 _ _ _ _ rfl rfl)) (e 8 _ _ _ _ rfl rfl)

/-- A map of 3 m channels read as anchors of m lanes each. -/
theorem anchors_at {m n : ℕ} (hn : n = m * 3) (hR : R = 3 * (H * H)) (f : (Px H n).ShapeCasts (Sheet R m)) (v : FVec Ideal (Px H n) .f32)
    (b : Fin 2) (r : Fin R) (l : Fin m) (h w : Fin H) (hh : h.val = r / 3 / H) (hw : w.val = r / 3 % H) (j : Fin n) (hj : j.val = m * (r % 3) + l) :
    shapeCast (Sheet R m) v f (ix3 b r l) = v (ix4 b h w j) :=
  shapeCast_apply _ _ _ _ (by
    rw [rowMajor_val3 _ (R * m) m rfl rfl, rowMajor_val4 _ (H * (H * n)) (H * n) n rfl rfl rfl]
    show b.val * (H * (H * n)) + h.val * (H * n) + w.val * n + j.val = b.val * (R * m) + r.val * m + l.val
    have e1 := Nat.div_add_mod r.val 3
    have e2 := Nat.div_add_mod (r.val / 3) H
    rw [← hh, ← hw] at e2
    rw [hj, hn]
    generalize r.val = z at *
    generalize z % 3 = s at *
    rw [hR, ← e1, ← e2]
    ring)

/-- The logits, -/
theorem refLogits_at (hR : R = 3 * (H * H)) (b : Fin 2) (r : Fin R) (l : Fin 2) : refLogits g A x (ix3 b r l) = A.L x b r l := by
  have hr := r.isLt
  have hH : 0 < H := Nat.pos_of_ne_zero (by rintro rfl; omega)
  have h3 : r.val / 3 < H * H := by omega
  refine (anchors_at rfl hR g.fl _ b r l (⟨r / 3 / H, Nat.div_lt_of_lt_mul h3⟩ : Fin H) (⟨r / 3 % H, Nat.mod_lt _ hH⟩ : Fin H) rfl rfl
    (⟨2 * (r % 3) + l, by omega⟩ : Fin 6) rfl).trans (congrArg₂ (· + ·) ?_ (bias_at (by decide) g.l1 g.l2 A.bl b _ _ _))
  refine (chan_apply g.dl _ _ b _ _ _).trans (Finset.sum_congr rfl fun o _ => ?_)
  rw [refShared_at, mat_at]

/-- the deltas, -/
theorem refDeltas_at (hR : R = 3 * (H * H)) (b : Fin 2) (r : Fin R) (l : Fin 4) : refDeltas g A x (ix3 b r l) = A.D x b r l := by
  have hr := r.isLt
  have hH : 0 < H := Nat.pos_of_ne_zero (by rintro rfl; omega)
  have h3 : r.val / 3 < H * H := by omega
  refine (anchors_at rfl hR g.fd _ b r l (⟨r / 3 / H, Nat.div_lt_of_lt_mul h3⟩ : Fin H) (⟨r / 3 % H, Nat.mod_lt _ hH⟩ : Fin H) rfl rfl
    (⟨4 * (r % 3) + l, by omega⟩ : Fin 12) rfl).trans (congrArg₂ (· + ·) ?_ (bias_at (by decide) g.d1 g.d2 A.bd b _ _ _))
  refine (chan_apply g.dd _ _ b _ _ _).trans (Finset.sum_congr rfl fun o _ => ?_)
  rw [refShared_at, mat_at]

/-- the exponentials of the logits less the larger of the pair, -/
theorem refExp_at (hR : R ≠ 1) (v : FVec Ideal (Sheet R 2) .f32) (b : Fin 2) (r : Fin R) (l : Fin 2) :
    refExp g v (ix3 b r l) = Ideal.exp (v (ix3 b r l) - max (v (ix3 b r 0)) (v (ix3 b r 1))) := by
  refine congrArg Ideal.exp (congrArg (fun z : EReal => v (ix3 b r l) - z) ((spread_at hR g.up1 g.up2 _ b r l).trans ?_))
  refine (congrArg₂ max (x := (Ideal.ofBits .f32 0xFF800000#32 : EReal)) (x' := (⊥ : EReal)) ?_ (top_at g.red g.pos v b r)).trans (max_bot_left _)
  simp [Ideal.ofBits, Ideal.ieee]

/-- and the probabilities are those of the specification. -/
theorem refProbs_at (hR : R = 3 * (H * H)) (b : Fin 2) (r : Fin R) (l : Fin 2) :
    refProbs g (refExp g (refLogits g A x)) (ix3 b r l) = A.Q x b r l := by
  have h1 : R ≠ 1 := by omega
  refine (congrArg₂ Ideal.div (refExp_at g h1 _ b r l) ((spread_at h1 g.up1 g.up2 _ b r l).trans
    ((sum_at g.red g.pos _ b r).trans (congrArg₂ (· + ·) (refExp_at g h1 _ b r 0) (refExp_at g h1 _ b r 1))))).trans ?_
  simp only [refLogits_at g A x hR]
  unfold Args.Q soft
  match l with
  | ⟨0, _⟩ => rfl
  | ⟨1, _⟩ =>
    show Ideal.div (Ideal.exp (A.L x b r 1 - max (A.L x b r 0) (A.L x b r 1))) _ = Ideal.div (Ideal.exp (A.L x b r 1 - max (A.L x b r 1) (A.L x b r 0))) _
    rw [max_comm (A.L x b r 0)]
    exact congrArg _ (add_comm _ _)

end Cert.Rpn

end
-- ==== Proof.RI.Value.lean ====
/- What the reference's run leaves in its three results, in the arguments' own terms. -/
module

public import proofs.«01_k».proof.Proof.RI.Level
public import proofs.«01_k».proof.Proof.Gen.ReferenceIdeal.Run
public import Idealize.ShloMosaic.Lib.Pipeline.Value

@[expose] public section

set_option maxRecDepth 16384

noncomputable section

namespace Cert.Rpn

open Idealize.ShloMosaic Idealize.SL.Sem

/-- Five levels' arrays laid end to end. -/
theorem joined {n : ℕ} (p0 : (Sheet 196608 n).Idx → EReal) (p1 : (Sheet 49152 n).Idx → EReal) (p2 : (Sheet 12288 n).Idx → EReal)
    (p3 : (Sheet 3072 n).Idx → EReal) (p4 : (Sheet 768 n).Idx → EReal)
    (h : Shape.Concatenates [Sheet 196608 n, Sheet 49152 n, Sheet 12288 n, Sheet 3072 n, Sheet 768 n] (All n) 1)
    {g0 g1 g2 g3 g4 : Fin 2 → ℕ → Fin n → EReal} (e0 : ∀ b r l, p0 (ix3 b r l) = g0 b r l) (e1 : ∀ b r l, p1 (ix3 b r l) = g1 b r l)
    (e2 : ∀ b r l, p2 (ix3 b r l) = g2 b r l) (e3 : ∀ b r l, p3 (ix3 b r l) = g3 b r l) (e4 : ∀ b r l, p4 (ix3 b r l) = g4 b r l) :
    concatenate (All n) 1 [⟨_, p0⟩, ⟨_, p1⟩, ⟨_, p2⟩, ⟨_, p3⟩, ⟨_, p4⟩] h = stacked g0 g1 g2 g3 g4 := by
  funext i
  have hi : (i 1).val < 261888 := (i 1).isLt
  have key : ∀ (k : ℕ) (hk : k < 5) (R pre : ℕ) (p : (Sheet R n).Idx → EReal) (g : Fin 2 → ℕ → Fin n → EReal),
      [(⟨_, p0⟩ : (s : Shape) × (s.Idx → EReal)), ⟨_, p1⟩, ⟨_, p2⟩, ⟨_, p3⟩, ⟨_, p4⟩][k] = ⟨_, p⟩ →
      ((([(⟨_, p0⟩ : (s : Shape) × (s.Idx → EReal)), ⟨_, p1⟩, ⟨_, p2⟩, ⟨_, p3⟩, ⟨_, p4⟩].take k).map (·.1)).map
        fun s => if h : s.rank = (All n).rank then s.size ((1 : Fin (All n).rank).cast h.symm) else 0).sum = pre →
      (∀ b r l, p (ix3 b r l) = g b r l) → pre ≤ (i 1).val → (i 1).val - pre < R →
      concatenate (All n) 1 [⟨_, p0⟩, ⟨_, p1⟩, ⟨_, p2⟩, ⟨_, p3⟩, ⟨_, p4⟩] h i = g (i 0) ((i 1).val - pre) (i 2) := by
    intro k hk R pre p g hp hpre e hlo hhi
    refine (concatenate_apply_piece (t := All n) 1
      [(⟨_, p0⟩ : (s : Shape) × (s.Idx → EReal)), ⟨_, p1⟩, ⟨_, p2⟩, ⟨_, p3⟩, ⟨_, p4⟩] h i k hk (Sheet R n) p hp rfl pre hpre (ix3 (i 0) (⟨(i 1).val - pre, hhi⟩ : Fin R) (i 2))
      (fun b hb => ?_) ?_).trans (e (i 0) ⟨(i 1).val - pre, hhi⟩ (i 2))
    · fin_cases b
      · rfl
      · exact absurd rfl hb
      · rfl
    · show pre + ((i 1).val - pre) = (i 1).val; omega
  unfold stacked
  split_ifs with h0 h1 h2 h3
  · exact key 0 (by omega) _ 0 p0 g0 rfl (by simp) e0 (by omega) (by omega)
  · exact key 1 (by omega) _ 196608 p1 g1 rfl (by simp) e1 (by omega) (by omega)
  · exact key 2 (by omega) _ 245760 p2 g2 rfl (by simp) e2 (by omega) (by omega)
  · exact key 3 (by omega) _ 258048 p3 g3 rfl (by simp) e3 (by omega) (by omega)
  · exact key 4 (by omega) _ 261120 p4 g4 rfl (by simp) e4 (by omega) (by omega)

/-- The shapes of the five levels fit. -/
theorem ref0 : RefGeo 256 196608 := by constructor <;> decide
theorem ref1 : RefGeo 128 49152 := by constructor <;> decide
theorem ref2 : RefGeo 64 12288 := by constructor <;> decide
theorem ref3 : RefGeo 32 3072 := by constructor <;> decide
theorem ref4 : RefGeo 16 768 := by constructor <;> decide

end Cert.Rpn

namespace Cert.ReferenceIdeal.Value

open Cert.ReferenceIdeal Cert.ReferenceIdeal.Gen Idealize.ShloMosaic Idealize.ShloMosaic.TcCoe Idealize.SL.Sem
open Cert.Rpn

variable (W : Valuation τ sig (Elt Ideal))

/-- The weights and the feature maps among the contents `W`. -/
abbrev refArgs : Args :=
  ⟨W (Proc.devRef .tc main_arg5), W (Proc.devRef .tc main_arg6), W (Proc.devRef .tc main_arg7), W (Proc.devRef .tc main_arg8),
    W (Proc.devRef .tc main_arg9), W (Proc.devRef .tc main_arg10)⟩
abbrev refFeats : Feats :=
  ⟨W (Proc.devRef .tc main_arg0), W (Proc.devRef .tc main_arg1), W (Proc.devRef .tc main_arg2), W (Proc.devRef .tc main_arg3),
    W (Proc.devRef .tc main_arg4)⟩

/-! Each level's text is the level of `Level`, so its values are those. -/

theorem shared0 : res_main_v48 W = refShared ref0 (refArgs W) (refFeats W).x0 := rfl
theorem logits0 : res_main_v54 W = refLogits ref0 (refArgs W) (refFeats W).x0 :=
  congrArg (refHead6 ref0 (refArgs W)) (shared0 W)
theorem exp0 : res_main_v61 W = refExp ref0 (refLogits ref0 (refArgs W) (refFeats W).x0) :=
  congrArg (refExp ref0) (logits0 W)
theorem shared1 : res_main_v120 W = refShared ref1 (refArgs W) (refFeats W).x1 := rfl
theorem logits1 : res_main_v126 W = refLogits ref1 (refArgs W) (refFeats W).x1 :=
  congrArg (refHead6 ref1 (refArgs W)) (shared1 W)
theorem exp1 : res_main_v133 W = refExp ref1 (refLogits ref1 (refArgs W) (refFeats W).x1) :=
  congrArg (refExp ref1) (logits1 W)
theorem shared2 : res_main_v192 W = refShared ref2 (refArgs W) (refFeats W).x2 := rfl
theorem logits2 : res_main_v198 W = refLogits ref2 (refArgs W) (refFeats W).x2 :=
  congrArg (refHead6 ref2 (refArgs W)) (shared2 W)
theorem exp2 : res_main_v205 W = refExp ref2 (refLogits ref2 (refArgs W) (refFeats W).x2) :=
  congrArg (refExp ref2) (logits2 W)
theorem shared3 : res_main_v264 W = refShared ref3 (refArgs W) (refFeats W).x3 := rfl
theorem logits3 : res_main_v270 W = refLogits ref3 (refArgs W) (refFeats W).x3 :=
  congrArg (refHead6 ref3 (refArgs W)) (shared3 W)
theorem exp3 : res_main_v277 W = refExp ref3 (refLogits ref3 (refArgs W) (refFeats W).x3) :=
  congrArg (refExp ref3) (logits3 W)
theorem shared4 : res_main_v336 W = refShared ref4 (refArgs W) (refFeats W).x4 := rfl
theorem logits4 : res_main_v342 W = refLogits ref4 (refArgs W) (refFeats W).x4 :=
  congrArg (refHead6 ref4 (refArgs W)) (shared4 W)
theorem exp4 : res_main_v349 W = refExp ref4 (refLogits ref4 (refArgs W) (refFeats W).x4) :=
  congrArg (refExp ref4) (logits4 W)
theorem logits0_at (b r l) : res_main_v54 W (ix3 b r l) = (refArgs W).L (refFeats W).x0 b r l :=
  (congrFun (logits0 W) _).trans (refLogits_at ref0 _ _ rfl b r l)
theorem probs0_at (b r l) : refProbs ref0 (res_main_v61 W) (ix3 b r l) = (refArgs W).Q (refFeats W).x0 b r l :=
  (congrFun (congrArg (refProbs ref0) (exp0 W)) _).trans (refProbs_at ref0 _ _ rfl b r l)
theorem deltas0_at (b r l) : refHead12 ref0 (refArgs W) (res_main_v48 W) (ix3 b r l) = (refArgs W).D (refFeats W).x0 b r l :=
  (congrFun (congrArg (refHead12 ref0 (refArgs W)) (shared0 W)) _).trans (refDeltas_at ref0 _ _ rfl b r l)
theorem logits1_at (b r l) : res_main_v126 W (ix3 b r l) = (refArgs W).L (refFeats W).x1 b r l :=
  (congrFun (logits1 W) _).trans (refLogits_at ref1 _ _ rfl b r l)
theorem probs1_at (b r l) : refProbs ref1 (res_main_v133 W) (ix3 b r l) = (refArgs W).Q (refFeats W).x1 b r l :=
  (congrFun (congrArg (refProbs ref1) (exp1 W)) _).trans (refProbs_at ref1 _ _ rfl b r l)
theorem deltas1_at (b r l) : refHead12 ref1 (refArgs W) (res_main_v120 W) (ix3 b r l) = (refArgs W).D (refFeats W).x1 b r l :=
  (congrFun (congrArg (refHead12 ref1 (refArgs W)) (shared1 W)) _).trans (refDeltas_at ref1 _ _ rfl b r l)
theorem logits2_at (b r l) : res_main_v198 W (ix3 b r l) = (refArgs W).L (refFeats W).x2 b r l :=
  (congrFun (logits2 W) _).trans (refLogits_at ref2 _ _ rfl b r l)
theorem probs2_at (b r l) : refProbs ref2 (res_main_v205 W) (ix3 b r l) = (refArgs W).Q (refFeats W).x2 b r l :=
  (congrFun (congrArg (refProbs ref2) (exp2 W)) _).trans (refProbs_at ref2 _ _ rfl b r l)
theorem deltas2_at (b r l) : refHead12 ref2 (refArgs W) (res_main_v192 W) (ix3 b r l) = (refArgs W).D (refFeats W).x2 b r l :=
  (congrFun (congrArg (refHead12 ref2 (refArgs W)) (shared2 W)) _).trans (refDeltas_at ref2 _ _ rfl b r l)
theorem logits3_at (b r l) : res_main_v270 W (ix3 b r l) = (refArgs W).L (refFeats W).x3 b r l :=
  (congrFun (logits3 W) _).trans (refLogits_at ref3 _ _ rfl b r l)
theorem probs3_at (b r l) : refProbs ref3 (res_main_v277 W) (ix3 b r l) = (refArgs W).Q (refFeats W).x3 b r l :=
  (congrFun (congrArg (refProbs ref3) (exp3 W)) _).trans (refProbs_at ref3 _ _ rfl b r l)
theorem deltas3_at (b r l) : refHead12 ref3 (refArgs W) (res_main_v264 W) (ix3 b r l) = (refArgs W).D (refFeats W).x3 b r l :=
  (congrFun (congrArg (refHead12 ref3 (refArgs W)) (shared3 W)) _).trans (refDeltas_at ref3 _ _ rfl b r l)
theorem logits4_at (b r l) : res_main_v342 W (ix3 b r l) = (refArgs W).L (refFeats W).x4 b r l :=
  (congrFun (logits4 W) _).trans (refLogits_at ref4 _ _ rfl b r l)
theorem probs4_at (b r l) : refProbs ref4 (res_main_v349 W) (ix3 b r l) = (refArgs W).Q (refFeats W).x4 b r l :=
  (congrFun (congrArg (refProbs ref4) (exp4 W)) _).trans (refProbs_at ref4 _ _ rfl b r l)
theorem deltas4_at (b r l) : refHead12 ref4 (refArgs W) (res_main_v336 W) (ix3 b r l) = (refArgs W).D (refFeats W).x4 b r l :=
  (congrFun (congrArg (refHead12 ref4 (refArgs W)) (shared4 W)) _).trans (refDeltas_at ref4 _ _ rfl b r l)

/-- What a launch finds. -/
abbrev V (m : (ℓ : Loc nD τ sig) → Buf (Elt Ideal) ℓ) (c : Dev nD) : Valuation τ sig (Elt Ideal) := StableHlo.launchContents m c

/-- What the run leaves in the results and the arguments. -/
theorem ref_ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v360) = (refArgs (V m c)).logits (refFeats (V m c))
      ∧ r.2.mem ((c.tc : Thread nD τ).loc main_v361) = (refArgs (V m c)).probs (refFeats (V m c))
      ∧ r.2.mem ((c.tc : Thread nD τ).loc main_v362) = (refArgs (V m c)).deltas (refFeats (V m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (run m ρ)
  obtain ⟨h0, h1, h2, h3⟩ := h c
  refine ⟨h0.trans ?_, h1.trans ?_, h2.trans ?_, h3⟩
  · exact joined _ _ _ _ _ _ (logits0_at _) (logits1_at _) (logits2_at _) (logits3_at _) (logits4_at _)
  · exact joined _ _ _ _ _ _ (probs0_at _) (probs1_at _) (probs2_at _) (probs3_at _) (probs4_at _)
  · exact joined _ _ _ _ _ _ (deltas0_at _) (deltas1_at _) (deltas2_at _) (deltas3_at _) (deltas4_at _)

end Cert.ReferenceIdeal.Value

end
-- ==== Proof.Equal.lean ====
/- The idealized kernel and the idealized reference end with equal results. -/
module

public import proofs.«01_k».proof.Proof.Frames
public import proofs.«01_k».proof.Proof.KI.Whole
public import proofs.«01_k».proof.Proof.RI.Value

@[expose] public section

set_option maxRecDepth 16384

noncomputable section

namespace Cert.Rpn

open Idealize.ShloMosaic Idealize.ShloMosaic.TcCoe Idealize.SL.Sem
open Cert.KernelIdeal.Gen (argsOf featsOf W0 run_ends logits_end probs_end deltas_end)
open Cert.ReferenceIdeal.Value (refArgs refFeats ref_ends)

/-- Both end with the three closed forms of the arguments, which are the same on either side; the arguments stay. -/
theorem algebraic : Cert.algebraic_KernelIdeal_ReferenceIdeal (hKernelIdeal := Cert.KernelIdeal.Gen.facts)
    (hReferenceIdeal := Cert.ReferenceIdeal.Gen.facts) := by
  intro m g m' g' _ same
  refine ⟨fun c => (argsOf (W0 m g c)).logits (featsOf (W0 m g c)), fun c => (argsOf (W0 m g c)).probs (featsOf (W0 m g c)),
    fun c => (argsOf (W0 m g c)).deltas (featsOf (W0 m g c)), ?_, ?_⟩
  · refine (θ_run _ _ _).mono (fun r h c => ?_) (run_ends m g)
    obtain ⟨ha, h0, h1, h2⟩ := h.1 c
    exact ⟨h0.trans (logits_end m g c), h1.trans (probs_end m g c), h2.trans (deltas_end m g c), sameArgs ha⟩
  · refine (θ_run _ _ _).mono (fun r h c => ?_) (ref_ends m' g')
    obtain ⟨h0, h1, h2, ha⟩ := h c
    obtain ⟨e0, e1, e2, e3, e4, e5, e6, e7, e8, e9, e10⟩ := same c
    have eA : refArgs (Cert.ReferenceIdeal.Value.V m' c) = argsOf (W0 m g c) :=
      (Args.mk.injEq ..).mpr ⟨e5, e6, e7, e8, e9, e10⟩
    have eX : refFeats (Cert.ReferenceIdeal.Value.V m' c) = featsOf (W0 m g c) :=
      (Feats.mk.injEq ..).mpr ⟨e0, e1, e2, e3, e4⟩
    rw [eA, eX] at h0 h1 h2
    exact ⟨h0, h1, h2, ha⟩

end Cert.Rpn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Rpn.frame_kernel, Cert.Rpn.frame_ideal, Cert.Rpn.frame_reference, trivial,
  Cert.Rpn.algebraic⟩

end Cert.Proof

end
